-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x4x64x256 : Shape := ⟨4, ![3, 4, 64, 256]⟩
abbrev S3x4x3x64x256 : Shape := ⟨5, ![3, 4, 3, 64, 256]⟩
abbrev S3x256x512 : Shape := ⟨3, ![3, 256, 512]⟩
abbrev S3x512x256 : Shape := ⟨3, ![3, 512, 256]⟩
abbrev S3x4x3 : Shape := ⟨3, ![3, 4, 3]⟩
abbrev S_ : Shape := ⟨0, ![]⟩
abbrev S1x256x512 : Shape := ⟨3, ![1, 256, 512]⟩
abbrev S1x512x256 : Shape := ⟨3, ![1, 512, 256]⟩
abbrev S64x256 : Shape := ⟨2, ![64, 256]⟩
abbrev S64x512 : Shape := ⟨2, ![64, 512]⟩
abbrev S1x1x64x256 : Shape := ⟨4, ![1, 1, 64, 256]⟩
abbrev S1x1x1 : Shape := ⟨3, ![1, 1, 1]⟩
abbrev S1x1x1x64x256 : Shape := ⟨5, ![1, 1, 1, 64, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S3x4x64x256, .bf16⟩
  | .local _ .vmem, ⟨9, _⟩ => ⟨S3x4x3x64x256, .bf16⟩
  | .local _ .vmem, ⟨10, _⟩ => ⟨S3x256x512, .bf16⟩
  | .local _ .vmem, ⟨11, _⟩ => ⟨S3x512x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v42 : BitVec 32 := Scalar.addi v2 c2_i32_36
  let c4_i32_37 : BitVec 32 := 4#32
  let v43 : BitVec 32 := Scalar.remsi v42 c4_i32_37
  let c1_i32_49 : BitVec 32 := 1#32
  let v44 : BitVec 32 := Scalar.muli v43 c1_i32_49
  let v45 : BitVec 32 := Scalar.addi c0_i32_50 v44
  v45.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_55 : BitVec 32 := 1#32
  let v54 : BitVec 32 := Scalar.addi v2 c1_i32_55
  let c4_i32_56 : BitVec 32 := 4#32
  let v55 : BitVec 32 := Scalar.remsi v54 c4_i32_56
  let c1_i32_68 : BitVec 32 := 1#32
  let v56 : BitVec 32 := Scalar.muli v55 c1_i32_68
  let v57 : BitVec 32 := Scalar.addi c0_i32_69 v56
  v57.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v66 : BitVec 32 := Scalar.addi v2 c3_i32_74
  let c4_i32_75 : BitVec 32 := 4#32
  let v67 : BitVec 32 := Scalar.remsi v66 c4_i32_75
  let c1_i32_87 : BitVec 32 := 1#32
  let v68 : BitVec 32 := Scalar.muli v67 c1_i32_87
  let v69 : BitVec 32 := Scalar.addi c0_i32_88 v68
  v69.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_105 : BitVec 32 := 2#32
  let v92 : BitVec 32 := Scalar.addi v2 c2_i32_105
  let c4_i32_106 : BitVec 32 := 4#32
  let v93 : BitVec 32 := Scalar.remsi v92 c4_i32_106
  let c1_i32_118 : BitVec 32 := 1#32
  let v94 : BitVec 32 := Scalar.muli v93 c1_i32_118
  let v95 : BitVec 32 := Scalar.addi c0_i32_119 v94
  v95.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v104 : BitVec 32 := Scalar.addi v2 c1_i32_124
  let c4_i32_125 : BitVec 32 := 4#32
  let v105 : BitVec 32 := Scalar.remsi v104 c4_i32_125
  let c1_i32_137 : BitVec 32 := 1#32
  let v106 : BitVec 32 := Scalar.muli v105 c1_i32_137
  let v107 : BitVec 32 := Scalar.addi c0_i32_138 v106
  v107.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v116 : BitVec 32 := Scalar.addi v2 c3_i32_143
  let c4_i32_144 : BitVec 32 := 4#32
  let v117 : BitVec 32 := Scalar.remsi v116 c4_i32_144
  let c1_i32_156 : BitVec 32 := 1#32
  let v118 : BitVec 32 := Scalar.muli v117 c1_i32_156
  let v119 : BitVec 32 := Scalar.addi c0_i32_157 v118
  v119.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_174 : BitVec 32 := 2#32
  let v142 : BitVec 32 := Scalar.addi v2 c2_i32_174
  let c4_i32_175 : BitVec 32 := 4#32
  let v143 : BitVec 32 := Scalar.remsi v142 c4_i32_175
  let c1_i32_187 : BitVec 32 := 1#32
  let v144 : BitVec 32 := Scalar.muli v143 c1_i32_187
  let v145 : BitVec 32 := Scalar.addi c0_i32_188 v144
  v145.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_193 : BitVec 32 := 1#32
  let v154 : BitVec 32 := Scalar.addi v2 c1_i32_193
  let c4_i32_194 : BitVec 32 := 4#32
  let v155 : BitVec 32 := Scalar.remsi v154 c4_i32_194
  let c1_i32_206 : BitVec 32 := 1#32
  let v156 : BitVec 32 := Scalar.muli v155 c1_i32_206
  let v157 : BitVec 32 := Scalar.addi c0_i32_207 v156
  v157.toNat
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_212 : BitVec 32 := 3#32
  let v166 : BitVec 32 := Scalar.addi v2 c3_i32_212
  let c4_i32_213 : BitVec 32 := 4#32
  let v167 : BitVec 32 := Scalar.remsi v166 c4_i32_213
  let c1_i32_225 : BitVec 32 := 1#32
  let v168 : BitVec 32 := Scalar.muli v167 c1_i32_225
  let v169 : BitVec 32 := Scalar.addi c0_i32_226 v168
  v169.toNat
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_243 : BitVec 32 := 2#32
  let v192 : BitVec 32 := Scalar.addi v2 c2_i32_243
  let c4_i32_244 : BitVec 32 := 4#32
  let v193 : BitVec 32 := Scalar.remsi v192 c4_i32_244
  let c1_i32_256 : BitVec 32 := 1#32
  let v194 : BitVec 32 := Scalar.muli v193 c1_i32_256
  let v195 : BitVec 32 := Scalar.addi c0_i32_257 v194
  v195.toNat
def k0_dev14 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_262 : BitVec 32 := 1#32
  let v204 : BitVec 32 := Scalar.addi v2 c1_i32_262
  let c4_i32_263 : BitVec 32 := 4#32
  let v205 : BitVec 32 := Scalar.remsi v204 c4_i32_263
  let c1_i32_275 : BitVec 32 := 1#32
  let v206 : BitVec 32 := Scalar.muli v205 c1_i32_275
  let v207 : BitVec 32 := Scalar.addi c0_i32_276 v206
  v207.toNat
def k0_dev15 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_281 : BitVec 32 := 3#32
  let v216 : BitVec 32 := Scalar.addi v2 c3_i32_281
  let c4_i32_282 : BitVec 32 := 4#32
  let v217 : BitVec 32 := Scalar.remsi v216 c4_i32_282
  let c1_i32_294 : BitVec 32 := 1#32
  let v218 : BitVec 32 := Scalar.muli v217 c1_i32_294
  let v219 : BitVec 32 := Scalar.addi c0_i32_295 v218
  v219.toNat
def k0_dev16 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_389 : BitVec 32 := 2#32
  let v288 : BitVec 32 := Scalar.addi v2 c2_i32_389
  let c4_i32_390 : BitVec 32 := 4#32
  let v289 : BitVec 32 := Scalar.remsi v288 c4_i32_390
  let c1_i32_402 : BitVec 32 := 1#32
  let v290 : BitVec 32 := Scalar.muli v289 c1_i32_402
  let v291 : BitVec 32 := Scalar.addi c0_i32_403 v290
  v291.toNat
def k0_dev17 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_408 : BitVec 32 := 1#32
  let v300 : BitVec 32 := Scalar.addi v2 c1_i32_408
  let c4_i32_409 : BitVec 32 := 4#32
  let v301 : BitVec 32 := Scalar.remsi v300 c4_i32_409
  let c1_i32_421 : BitVec 32 := 1#32
  let v302 : BitVec 32 := Scalar.muli v301 c1_i32_421
  let v303 : BitVec 32 := Scalar.addi c0_i32_422 v302
  v303.toNat
def k0_dev18 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_427 : BitVec 32 := 3#32
  let v312 : BitVec 32 := Scalar.addi v2 c3_i32_427
  let c4_i32_428 : BitVec 32 := 4#32
  let v313 : BitVec 32 := Scalar.remsi v312 c4_i32_428
  let c1_i32_440 : BitVec 32 := 1#32
  let v314 : BitVec 32 := Scalar.muli v313 c1_i32_440
  let v315 : BitVec 32 := Scalar.addi c0_i32_441 v314
  v315.toNat
def k0_dev19 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_525 : BitVec 32 := 2#32
  let v374 : BitVec 32 := Scalar.addi v2 c2_i32_525
  let c4_i32_526 : BitVec 32 := 4#32
  let v375 : BitVec 32 := Scalar.remsi v374 c4_i32_526
  let c1_i32_538 : BitVec 32 := 1#32
  let v376 : BitVec 32 := Scalar.muli v375 c1_i32_538
  let v377 : BitVec 32 := Scalar.addi c0_i32_539 v376
  v377.toNat
def k0_dev20 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_544 : BitVec 32 := 1#32
  let v386 : BitVec 32 := Scalar.addi v2 c1_i32_544
  let c4_i32_545 : BitVec 32 := 4#32
  let v387 : BitVec 32 := Scalar.remsi v386 c4_i32_545
  let c1_i32_557 : BitVec 32 := 1#32
  let v388 : BitVec 32 := Scalar.muli v387 c1_i32_557
  let v389 : BitVec 32 := Scalar.addi c0_i32_558 v388
  v389.toNat
def k0_dev21 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_563 : BitVec 32 := 3#32
  let v398 : BitVec 32 := Scalar.addi v2 c3_i32_563
  let c4_i32_564 : BitVec 32 := 4#32
  let v399 : BitVec 32 := Scalar.remsi v398 c4_i32_564
  let c1_i32_576 : BitVec 32 := 1#32
  let v400 : BitVec 32 := Scalar.muli v399 c1_i32_576
  let v401 : BitVec 32 := Scalar.addi c0_i32_577 v400
  v401.toNat
def k0_dev22 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_661 : BitVec 32 := 2#32
  let v460 : BitVec 32 := Scalar.addi v2 c2_i32_661
  let c4_i32_662 : BitVec 32 := 4#32
  let v461 : BitVec 32 := Scalar.remsi v460 c4_i32_662
  let c1_i32_674 : BitVec 32 := 1#32
  let v462 : BitVec 32 := Scalar.muli v461 c1_i32_674
  let v463 : BitVec 32 := Scalar.addi c0_i32_675 v462
  v463.toNat
def k0_dev23 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_680 : BitVec 32 := 1#32
  let v472 : BitVec 32 := Scalar.addi v2 c1_i32_680
  let c4_i32_681 : BitVec 32 := 4#32
  let v473 : BitVec 32 := Scalar.remsi v472 c4_i32_681
  let c1_i32_693 : BitVec 32 := 1#32
  let v474 : BitVec 32 := Scalar.muli v473 c1_i32_693
  let v475 : BitVec 32 := Scalar.addi c0_i32_694 v474
  v475.toNat
def k0_dev24 (d0 : Dev nD) : Nat :=
  let c0_i32_713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_699 : BitVec 32 := 3#32
  let v484 : BitVec 32 := Scalar.addi v2 c3_i32_699
  let c4_i32_700 : BitVec 32 := 4#32
  let v485 : BitVec 32 := Scalar.remsi v484 c4_i32_700
  let c1_i32_712 : BitVec 32 := 1#32
  let v486 : BitVec 32 := Scalar.muli v485 c1_i32_712
  let v487 : BitVec 32 := Scalar.addi c0_i32_713 v486
  v487.toNat
def k0_dev25 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_797 : BitVec 32 := 2#32
  let v546 : BitVec 32 := Scalar.addi v2 c2_i32_797
  let c4_i32_798 : BitVec 32 := 4#32
  let v547 : BitVec 32 := Scalar.remsi v546 c4_i32_798
  let c1_i32_810 : BitVec 32 := 1#32
  let v548 : BitVec 32 := Scalar.muli v547 c1_i32_810
  let v549 : BitVec 32 := Scalar.addi c0_i32_811 v548
  v549.toNat
def k0_dev26 (d0 : Dev nD) : Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_816 : BitVec 32 := 1#32
  let v558 : BitVec 32 := Scalar.addi v2 c1_i32_816
  let c4_i32_817 : BitVec 32 := 4#32
  let v559 : BitVec 32 := Scalar.remsi v558 c4_i32_817
  let c1_i32_829 : BitVec 32 := 1#32
  let v560 : BitVec 32 := Scalar.muli v559 c1_i32_829
  let v561 : BitVec 32 := Scalar.addi c0_i32_830 v560
  v561.toNat
def k0_dev27 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_835 : BitVec 32 := 3#32
  let v570 : BitVec 32 := Scalar.addi v2 c3_i32_835
  let c4_i32_836 : BitVec 32 := 4#32
  let v571 : BitVec 32 := Scalar.remsi v570 c4_i32_836
  let c1_i32_848 : BitVec 32 := 1#32
  let v572 : BitVec 32 := Scalar.muli v571 c1_i32_848
  let v573 : BitVec 32 := Scalar.addi c0_i32_849 v572
  v573.toNat
def k0_dev28 (d0 : Dev nD) : Nat :=
  let c0_i32_957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_943 : BitVec 32 := 2#32
  let v642 : BitVec 32 := Scalar.addi v2 c2_i32_943
  let c4_i32_944 : BitVec 32 := 4#32
  let v643 : BitVec 32 := Scalar.remsi v642 c4_i32_944
  let c1_i32_956 : BitVec 32 := 1#32
  let v644 : BitVec 32 := Scalar.muli v643 c1_i32_956
  let v645 : BitVec 32 := Scalar.addi c0_i32_957 v644
  v645.toNat
def k0_dev29 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_962 : BitVec 32 := 1#32
  let v654 : BitVec 32 := Scalar.addi v2 c1_i32_962
  let c4_i32_963 : BitVec 32 := 4#32
  let v655 : BitVec 32 := Scalar.remsi v654 c4_i32_963
  let c1_i32_975 : BitVec 32 := 1#32
  let v656 : BitVec 32 := Scalar.muli v655 c1_i32_975
  let v657 : BitVec 32 := Scalar.addi c0_i32_976 v656
  v657.toNat
def k0_dev30 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_981 : BitVec 32 := 3#32
  let v666 : BitVec 32 := Scalar.addi v2 c3_i32_981
  let c4_i32_982 : BitVec 32 := 4#32
  let v667 : BitVec 32 := Scalar.remsi v666 c4_i32_982
  let c1_i32_994 : BitVec 32 := 1#32
  let v668 : BitVec 32 := Scalar.muli v667 c1_i32_994
  let v669 : BitVec 32 := Scalar.addi c0_i32_995 v668
  v669.toNat
def k0_dev31 (d0 : Dev nD) : Nat :=
  let c0_i32_1093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1079 : BitVec 32 := 2#32
  let v728 : BitVec 32 := Scalar.addi v2 c2_i32_1079
  let c4_i32_1080 : BitVec 32 := 4#32
  let v729 : BitVec 32 := Scalar.remsi v728 c4_i32_1080
  let c1_i32_1092 : BitVec 32 := 1#32
  let v730 : BitVec 32 := Scalar.muli v729 c1_i32_1092
  let v731 : BitVec 32 := Scalar.addi c0_i32_1093 v730
  v731.toNat
def k0_dev32 (d0 : Dev nD) : Nat :=
  let c0_i32_1112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1098 : BitVec 32 := 1#32
  let v740 : BitVec 32 := Scalar.addi v2 c1_i32_1098
  let c4_i32_1099 : BitVec 32 := 4#32
  let v741 : BitVec 32 := Scalar.remsi v740 c4_i32_1099
  let c1_i32_1111 : BitVec 32 := 1#32
  let v742 : BitVec 32 := Scalar.muli v741 c1_i32_1111
  let v743 : BitVec 32 := Scalar.addi c0_i32_1112 v742
  v743.toNat
def k0_dev33 (d0 : Dev nD) : Nat :=
  let c0_i32_1131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1117 : BitVec 32 := 3#32
  let v752 : BitVec 32 := Scalar.addi v2 c3_i32_1117
  let c4_i32_1118 : BitVec 32 := 4#32
  let v753 : BitVec 32 := Scalar.remsi v752 c4_i32_1118
  let c1_i32_1130 : BitVec 32 := 1#32
  let v754 : BitVec 32 := Scalar.muli v753 c1_i32_1130
  let v755 : BitVec 32 := Scalar.addi c0_i32_1131 v754
  v755.toNat
def k0_dev34 (d0 : Dev nD) : Nat :=
  let c0_i32_1229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1215 : BitVec 32 := 2#32
  let v814 : BitVec 32 := Scalar.addi v2 c2_i32_1215
  let c4_i32_1216 : BitVec 32 := 4#32
  let v815 : BitVec 32 := Scalar.remsi v814 c4_i32_1216
  let c1_i32_1228 : BitVec 32 := 1#32
  let v816 : BitVec 32 := Scalar.muli v815 c1_i32_1228
  let v817 : BitVec 32 := Scalar.addi c0_i32_1229 v816
  v817.toNat
def k0_dev35 (d0 : Dev nD) : Nat :=
  let c0_i32_1248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1234 : BitVec 32 := 1#32
  let v826 : BitVec 32 := Scalar.addi v2 c1_i32_1234
  let c4_i32_1235 : BitVec 32 := 4#32
  let v827 : BitVec 32 := Scalar.remsi v826 c4_i32_1235
  let c1_i32_1247 : BitVec 32 := 1#32
  let v828 : BitVec 32 := Scalar.muli v827 c1_i32_1247
  let v829 : BitVec 32 := Scalar.addi c0_i32_1248 v828
  v829.toNat
def k0_dev36 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1253 : BitVec 32 := 3#32
  let v838 : BitVec 32 := Scalar.addi v2 c3_i32_1253
  let c4_i32_1254 : BitVec 32 := 4#32
  let v839 : BitVec 32 := Scalar.remsi v838 c4_i32_1254
  let c1_i32_1266 : BitVec 32 := 1#32
  let v840 : BitVec 32 := Scalar.muli v839 c1_i32_1266
  let v841 : BitVec 32 := Scalar.addi c0_i32_1267 v840
  v841.toNat
def k0_dev37 (d0 : Dev nD) : Nat :=
  let c0_i32_1365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1351 : BitVec 32 := 2#32
  let v900 : BitVec 32 := Scalar.addi v2 c2_i32_1351
  let c4_i32_1352 : BitVec 32 := 4#32
  let v901 : BitVec 32 := Scalar.remsi v900 c4_i32_1352
  let c1_i32_1364 : BitVec 32 := 1#32
  let v902 : BitVec 32 := Scalar.muli v901 c1_i32_1364
  let v903 : BitVec 32 := Scalar.addi c0_i32_1365 v902
  v903.toNat
def k0_dev38 (d0 : Dev nD) : Nat :=
  let c0_i32_1384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1370 : BitVec 32 := 1#32
  let v912 : BitVec 32 := Scalar.addi v2 c1_i32_1370
  let c4_i32_1371 : BitVec 32 := 4#32
  let v913 : BitVec 32 := Scalar.remsi v912 c4_i32_1371
  let c1_i32_1383 : BitVec 32 := 1#32
  let v914 : BitVec 32 := Scalar.muli v913 c1_i32_1383
  let v915 : BitVec 32 := Scalar.addi c0_i32_1384 v914
  v915.toNat
def k0_dev39 (d0 : Dev nD) : Nat :=
  let c0_i32_1403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1389 : BitVec 32 := 3#32
  let v924 : BitVec 32 := Scalar.addi v2 c3_i32_1389
  let c4_i32_1390 : BitVec 32 := 4#32
  let v925 : BitVec 32 := Scalar.remsi v924 c4_i32_1390
  let c1_i32_1402 : BitVec 32 := 1#32
  let v926 : BitVec 32 := Scalar.muli v925 c1_i32_1402
  let v927 : BitVec 32 := Scalar.addi c0_i32_1403 v926
  v927.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S256x2048, .f32⟩
  | .hbm, ⟨8, _⟩ => ⟨S256x2048, .bf16⟩
  | .hbm, ⟨9, _⟩ => ⟨S_, .bf16⟩
  | .hbm, ⟨10, _⟩ => ⟨S256x2048, .bf16⟩
  | .hbm, ⟨11, _⟩ => ⟨S256x2048, .bf16⟩
  | .hbm, ⟨12, _⟩ => ⟨S256x256, .f32⟩
  | .hbm, ⟨13, _⟩ => ⟨S256x256, .bf16⟩
  | .hbm, ⟨14, _⟩ => ⟨S256x2048, .f32⟩
  | .hbm, ⟨15, _⟩ => ⟨S256x2048, .bf16⟩
  | .hbm, ⟨16, _⟩ => ⟨S_, .bf16⟩
  | .hbm, ⟨17, _⟩ => ⟨S256x2048, .bf16⟩
  | .hbm, ⟨18, _⟩ => ⟨S256x2048, .bf16⟩
  | .hbm, ⟨19, _⟩ => ⟨S256x256, .f32⟩
  | .hbm, ⟨20, _⟩ => ⟨S256x256, .bf16⟩
  | .hbm, ⟨21, _⟩ => ⟨S256x2048, .f32⟩
  | .hbm, ⟨22, _⟩ => ⟨S256x2048, .bf16⟩
  | .hbm, ⟨23, _⟩ => ⟨S_, .bf16⟩
  | .hbm, ⟨24, _⟩ => ⟨S256x2048, .bf16⟩
  | .hbm, ⟨25, _⟩ => ⟨S256x2048, .bf16⟩
  | .hbm, ⟨26, _⟩ => ⟨S256x256, .f32⟩
  | .hbm, ⟨27, _⟩ => ⟨S256x256, .bf16⟩
  | .hbm, ⟨28, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Shape.lean ====
/-
The kernel of one device written once more, by layer and row chunk: the transfers, waits, loads and stores of a
chunk stated for every layer and chunk at once, and the theorem that the printed kernel is this program.
-/
module

public import proofs.«01_k».proof.Proof.Gen.KernelIdeal.Skeleton
public import Idealize.ShloMosaic.Lib.Pipeline.Regions

@[expose] public section

noncomputable section

namespace Cert.Mlp

open Cert.KernelIdeal Cert.KernelIdeal.Gen
open Idealize.ShloMosaic Idealize.ShloMosaic.TcCoe
open Idealize.SL.Sem

variable {F : FTy → Type} [FloatOps F]

/-! ## The buffers and their slots -/

/-- The staged `x`, the staged weights of the layers (in, out alternating), the staged result. -/
abbrev xM : Memref sig .tc .vmem S256x256 .bf16 := Memref.whole cc0_stg0_0
abbrev oM : Memref sig .tc .vmem S256x256 .f32 := Memref.whole cc0_stg7_0
/-- The partial sums this device sends, the ones it receives, the weights of the three layers. -/
abbrev sbM : Memref sig .tc .vmem S3x4x64x256 .bf16 := Memref.whole cc0_scratch0
abbrev cmM : Memref sig .tc .vmem S3x4x3x64x256 .bf16 := Memref.whole cc0_scratch1
abbrev wiM : Memref sig .tc .vmem S3x256x512 .bf16 := Memref.whole cc0_scratch2
abbrev woM : Memref sig .tc .vmem S3x512x256 .bf16 := Memref.whole cc0_scratch3

/-- Layer `l`'s staged weights. -/
def winStg : Fin 3 → Memref sig .tc .vmem S256x512 .bf16 :=
  fun | 0 => Memref.whole cc0_stg1_0 | 1 => Memref.whole cc0_stg3_0 | 2 => Memref.whole cc0_stg5_0
def woutStg : Fin 3 → Memref sig .tc .vmem S512x256 .bf16 :=
  fun | 0 => Memref.whole cc0_stg2_0 | 1 => Memref.whole cc0_stg4_0 | 2 => Memref.whole cc0_stg6_0

theorem inbSb (l : Fin 3) (h : Fin 4) : ∀ a, (![l.val, h.val, 0, 0] : Fin 4 → Nat) a + S1x1x64x256.size a ≤ S3x4x64x256.size a := by
  revert l h; decide
theorem inbCm (l : Fin 3) (h : Fin 4) (s : Fin 3) :
    ∀ a, (![l.val, h.val, s.val, 0, 0] : Fin 5 → Nat) a + S1x1x1x64x256.size a ≤ S3x4x3x64x256.size a := by
  revert l h s; decide
theorem inbWi (l : Fin 3) : ∀ a, (![l.val, 0, 0] : Fin 3 → Nat) a + S1x256x512.size a ≤ S3x256x512.size a := by
  revert l; decide
theorem inbWo (l : Fin 3) : ∀ a, (![l.val, 0, 0] : Fin 3 → Nat) a + S1x512x256.size a ≤ S3x512x256.size a := by
  revert l; decide
theorem inbO (h : Fin 4) : ∀ a, (![64 * h.val, 0] : Fin 2 → Nat) a + S64x256.size a ≤ S256x256.size a := by
  revert h; decide
theorem inbSem (l : Fin 3) (h : Fin 4) (j : Fin 3) :
    ∀ a, (![l.val, h.val, j.val] : Fin 3 → Nat) a + S1x1x1.size a ≤ S3x4x3.size a := by
  revert l h j; decide

/-- The rectangle of slot `(l, h)` of the send buffer, of slot `(l, h, s)` of the receive buffer, of layer `l`'s weights,
    of chunk `h`'s rows of the result. -/
abbrev rSb (l : Fin 3) (h : Fin 4) : Rect S3x4x64x256 := Rect.unit (s := S3x4x64x256) ![l.val, h.val, 0, 0] S1x1x64x256.size (inbSb l h)
abbrev rCm (l : Fin 3) (h : Fin 4) (s : Fin 3) : Rect S3x4x3x64x256 :=
  Rect.unit (s := S3x4x3x64x256) ![l.val, h.val, s.val, 0, 0] S1x1x1x64x256.size (inbCm l h s)
abbrev rWi (l : Fin 3) : Rect S3x256x512 := Rect.unit (s := S3x256x512) ![l.val, 0, 0] S1x256x512.size (inbWi l)
abbrev rWo (l : Fin 3) : Rect S3x512x256 := Rect.unit (s := S3x512x256) ![l.val, 0, 0] S1x512x256.size (inbWo l)
abbrev rO (h : Fin 4) : Rect S256x256 := Rect.unit (s := S256x256) ![64 * h.val, 0] S64x256.size (inbO h)

theorem packedSb (l : Fin 3) (h : Fin 4) : (rSb l h).PackedRows (EltTy.packing .bf16) := by revert l h; decide
theorem wordsSb (l : Fin 3) (h : Fin 4) : (rSb l h).WholeWords (EltTy.packing .bf16) := by revert l h; decide
theorem wordsCm (l : Fin 3) (h : Fin 4) (s : Fin 3) : (rCm l h s).WholeWords (EltTy.packing .bf16) := by revert l h s; decide
theorem packedWi (l : Fin 3) : (rWi l).PackedRows (EltTy.packing .bf16) := by revert l; decide
theorem packedWo (l : Fin 3) : (rWo l).PackedRows (EltTy.packing .bf16) := by revert l; decide
theorem packedO (h : Fin 4) : (rO h).PackedRows (EltTy.packing .f32) := by revert h; decide
theorem slicesX (h : Fin 4) : S256x256.Slices ![64 * h.val, 0] S64x256 := by revert h; decide

/-- Slot `(l, h)` of the send buffer and slot `(l, h, s)` of the receive buffer, as a transfer names them. -/
abbrev sendM (l : Fin 3) (h : Fin 4) : Memref sig .tc .vmem S64x256 .bf16 :=
  (sbM.slice (rSb l h) (fun _ => rfl)).squeeze S64x256 squeezes_S1x1x64x256_S64x256
abbrev commM (l : Fin 3) (h : Fin 4) (s : Fin 3) : Memref sig .tc .vmem S64x256 .bf16 :=
  (cmM.slice (rCm l h s) (fun _ => rfl)).squeeze S64x256 squeezes_S1x1x1x64x256_S64x256

theorem wordExactSend (l : Fin 3) (h : Fin 4) : (sendM l h).view.WordExact :=
  ((Memref.isWhole_whole cc0_scratch0).wordExact_slice rfl _ (wordsSb l h)).reshape _ _
theorem wordExactComm (l : Fin 3) (h : Fin 4) (s : Fin 3) : (commM l h s).view.WordExact :=
  ((Memref.isWhole_whole cc0_scratch1).wordExact_slice rfl _ (wordsCm l h s)).reshape _ _

/-- The semaphore a transfer of `(l, h)` credits at its sender, and the one it credits at its receiver. -/
abbrev sendS (l : Fin 3) (h : Fin 4) (j : Fin 3) : DmaSem sig :=
  ((cc0_scratch4.slice (Rect.unit (s := S3x4x3) ![l.val, h.val, j.val] S1x1x1.size (inbSem l h j))).squeeze S_ squeezes_S1x1x1_S_).sem
abbrev recvS (l : Fin 3) (h : Fin 4) (s : Fin 3) : DmaSem sig :=
  ((cc0_scratch5.slice (Rect.unit (s := S3x4x3) ![l.val, h.val, s.val] S1x1x1.size (inbSem l h s))).squeeze S_ squeezes_S1x1x1_S_).sem
/-- The entry barrier's semaphore. -/
abbrev barS : Sem sig := (SemArray.scalar (sig.barrier 0 rfl) : Sems sig S_).sem

/-! ## The arithmetic -/

/-- `maximum(x @ win, 0)` rounded, times `wout`: a device's partial result for 64 rows. -/
def mm (x : FVec F S64x256 .bf16) (wi : Vec F S1x256x512 .bf16) (wo : Vec F S1x512x256 .bf16) : FVec F S64x256 .f32 :=
  matmul dot_S64x512_S512x256_S64x256_1_0_0_1_n_n none
    (truncf .bf16 (maximumf
      (matmul dot_S64x256_S256x512_S64x512_1_0_0_1_n_n none x (shapeCast S256x512 wi shapeCasts_S1x256x512_S256x512) (constant S64x512 .f32 0x00000000#32))
      (broadcast S64x512 (Scalar.ofBits .f32 0x00000000#32))) bitsLt_bf16_f32)
    (shapeCast S512x256 wo shapeCasts_S1x512x256_S512x256) (constant S64x256 .f32 0x00000000#32)

/-- Rows `64 h … 64 h + 63` of the input. -/
def chunk (h : Fin 4) (x : Vec F S256x256 .bf16) : FVec F S64x256 .bf16 :=
  extractStridedSlice S64x256 ![64 * h.val, 0] (shapeCast S256x256 x shapeCasts_S256x256_S256x256) (slicesX h)

/-- What is stored in the send buffer for the partial result `p`. -/
def toSend (p : FVec F S64x256 .f32) : FVec F S1x1x64x256 .bf16 :=
  shapeCast S1x1x64x256 (truncf .bf16 p bitsLt_bf16_f32) shapeCasts_S64x256_S1x1x64x256

/-- A received slot, widened. -/
def got (v : Vec F S1x1x1x64x256 .bf16) : FVec F S64x256 .f32 :=
  extf .f32 (shapeCast S64x256 v shapeCasts_S1x1x1x64x256_S64x256) bitsLt_bf16_f32

def winVal (w : Vec F S256x512 .bf16) : FVec F S1x256x512 .bf16 :=
  shapeCast S1x256x512 (shapeCast S256x512 w shapeCasts_S256x512_S256x512) shapeCasts_S256x512_S1x256x512
def woutVal (w : Vec F S512x256 .bf16) : FVec F S1x512x256 .bf16 :=
  shapeCast S1x512x256 (shapeCast S512x256 w shapeCasts_S512x256_S512x256) shapeCasts_S512x256_S1x512x256

/-! ## The program -/

/-- The effects of a device's program. -/
abbrev Eff (F : FTy → Type) : Type → Type := TpuEff nD τ sig (Elt F) Λ₀ .tc

/-- The device `j + 1` steps ahead of `d`, as the first chunk's transfers compute it. -/
def peerDev (d : Dev nD) : Fin 3 → Dev nD :=
  fun | 0 => ⟨k0_dev1 d, k0_dev1_lt d⟩ | 1 => ⟨k0_dev2 d, k0_dev2_lt d⟩ | 2 => ⟨k0_dev3 d, k0_dev3_lt d⟩

def rev (j : Fin 3) : Fin 3 := match j with | 0 => 2 | 1 => 1 | 2 => 0

/-- One transfer: slot `(l, h)` of the send buffer to the device `j + 1` ahead, into its slot `(l, h, 2 - j)`. -/
def enq (d : Dev nD) (l : Fin 3) (h : Fin 4) (j : Fin 3) : Prog (Eff F) PUnit :=
  Prog.lift (.enqueueDma (sendM l h) (.remote (Dev.tc (peerDev d j)) (commM l h (rev j)) (.dma (sendS l h j))) (.dma (recvS l h (rev j)))
    (wordExactSend l h) (wordExactComm l h (rev j)) ⟨⟨rfl, Or.inl rfl⟩, trivial⟩)

/-- The partial result `p` into its slot, and its three transfers. -/
def send (d : Dev nD) (l : Fin 3) (h : Fin 4) (p : FVec F S64x256 .f32) : Prog (Eff F) PUnit := do
  let _ ← Prog.lift (.load sbM (rSb l h).toLoadRect (View.loadsAt_vmem h_S1x1x64x256))
  Prog.lift (.store sbM (rSb l h) (toSend p) Finset.univ
    (View.stores_vmem h_S1x1x64x256 ((Memref.isWhole_whole cc0_scratch0).storeExact_slice rfl _ (packedSb l h)) (fun _ => rfl)) (.inl rfl))
  enq d l h 1
  enq d l h 0
  enq d l h 2

/-- One arrival waited for and read. -/
def recvOne (l : Fin 3) (h : Fin 4) (s : Fin 3) : Prog (Eff F) (Vec F S1x1x1x64x256 .bf16) := do
  Prog.lift (.waitDma2 (recvS l h s) (sendM l h) (commM l h s) (wordExactSend l h) (wordExactComm l h s))
  Prog.lift (.load cmM (rCm l h s).toLoadRect (View.loadsAt_vmem h_S1x1x1x64x256))

/-- The three arrivals of `(l, h)` added onto the device's own partial result. -/
def recvSum (l : Fin 3) (h : Fin 4) (p : FVec F S64x256 .f32) : Prog (Eff F) (FVec F S64x256 .f32) := do
  let v1 ← recvOne l h 1
  let v2 ← recvOne l h 2
  let v0 ← recvOne l h 0
  pure (addf (addf (addf p (got v1)) (got v2)) (got v0))

/-- The partial result of 64 rows at layer `l`, from the stored weights. -/
def compute (l : Fin 3) (x : FVec F S64x256 .bf16) : Prog (Eff F) (FVec F S64x256 .f32) := do
  let wi ← Prog.lift (.load wiM (rWi l).toLoadRect (View.loadsAt_vmem h_S1x256x512))
  let wo ← Prog.lift (.load woM (rWo l).toLoadRect (View.loadsAt_vmem h_S1x512x256))
  pure (mm x wi wo)

/-- Layer `l`'s staged weights into their slots. -/
def putW (l : Fin 3) : Prog (Eff F) PUnit := do
  let a ← Prog.lift (.load (winStg l) (Rect.unit (s := S256x512) ![0, 0] S256x512.size inb_S256x512_S256x512_0_0).toLoadRect (View.loadsAt_vmem h_S256x512))
  let _ ← Prog.lift (.load wiM (rWi l).toLoadRect (View.loadsAt_vmem h_S1x256x512))
  Prog.lift (.store wiM (rWi l) (winVal a) Finset.univ
    (View.stores_vmem h_S1x256x512 ((Memref.isWhole_whole cc0_scratch2).storeExact_slice rfl _ (packedWi l)) (fun _ => rfl)) (.inl rfl))
  let b ← Prog.lift (.load (woutStg l) (Rect.unit (s := S512x256) ![0, 0] S512x256.size inb_S512x256_S512x256_0_0).toLoadRect (View.loadsAt_vmem h_S512x256))
  let _ ← Prog.lift (.load woM (rWo l).toLoadRect (View.loadsAt_vmem h_S1x512x256))
  Prog.lift (.store woM (rWo l) (woutVal b) Finset.univ
    (View.stores_vmem h_S1x512x256 ((Memref.isWhole_whole cc0_scratch3).storeExact_slice rfl _ (packedWo l)) (fun _ => rfl)) (.inl rfl))

/-- Chunk `h` of layer `l + 1` (`l'`), once layer `l`'s is summed: the next partial result computed and sent. -/
def step (d : Dev nD) (l l' : Fin 3) (h : Fin 4) (p : FVec F S64x256 .f32) : Prog (Eff F) (FVec F S64x256 .f32) := do
  let t ← recvSum l h p
  let p' ← compute l' (truncf .bf16 t bitsLt_bf16_f32)
  send d l' h p'
  pure p'

/-- Chunk `h` of the result. -/
def last (h : Fin 4) (p : FVec F S64x256 .f32) : Prog (Eff F) PUnit := do
  let t ← recvSum 2 h p
  let _ ← Prog.lift (.load oM (rO h).toLoadRect (View.loadsAt_vmem h_S64x256))
  Prog.lift (.store oM (rO h) t Finset.univ
    (View.stores_vmem h_S64x256 ((Memref.isWhole_whole cc0_stg7_0).storeExact_slice rfl _ (packedO h)) (fun _ => rfl)) (.inl rfl))

/-- One transfer's departure waited for. -/
def unsend (l : Fin 3) (h : Fin 4) (j : Fin 3) : Prog (Eff F) PUnit :=
  Prog.lift (.waitDma2 (sendS l h j) (commM l h (rev j)) (sendM l h) (wordExactComm l h (rev j)) (wordExactSend l h))

/-- The three departures of chunk `(l, h)`. -/
def unsends (l : Fin 3) (h : Fin 4) : Prog (Eff F) PUnit := do
  unsend l h 1
  unsend l h 0
  unsend l h 2

/-- The whole kernel of one device. -/
def body : Prog (Eff F) PUnit := do
  let d ← Prog.lift .deviceId
  semSignalWord (peerDev d 0) barS 1#32
  semSignalWord (peerDev d 1) barS 1#32
  semSignalWord (peerDev d 2) barS 1#32
  putW 0
  let x ← Prog.lift (.load xM (Rect.unit (s := S256x256) ![0, 0] S256x256.size inb_S256x256_S256x256_0_0).toLoadRect (View.loadsAt_vmem h_S256x256))
  let p0 ← compute 0 (chunk 0 x)
  semWaitWord barS 3#32
  send d 0 0 p0
  let p1 ← compute 0 (chunk 1 x)
  send d 0 1 p1
  let p2 ← compute 0 (chunk 2 x)
  send d 0 2 p2
  let p3 ← compute 0 (chunk 3 x)
  send d 0 3 p3
  putW 1
  let q0 ← step d 0 1 0 p0
  let q1 ← step d 0 1 1 p1
  let q2 ← step d 0 1 2 p2
  let q3 ← step d 0 1 3 p3
  putW 2
  let r0 ← step d 1 2 0 q0
  let r1 ← step d 1 2 1 q1
  let r2 ← step d 1 2 2 q2
  let r3 ← step d 1 2 3 q3
  last 0 r0
  last 1 r1
  last 2 r2
  last 3 r3
  unsends 0 0
  unsends 0 1
  unsends 0 2
  unsends 0 3
  unsends 1 0
  unsends 1 1
  unsends 1 2
  unsends 1 3
  unsends 2 0
  unsends 2 1
  unsends 2 2
  unsends 2 3

set_option maxRecDepth 65536 in
set_option maxHeartbeats 4000000 in
/-- The printed kernel, at the buffers the launch gives it, is the program above. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 = body := by
  chain_rfl

end Cert.Mlp

end
-- ==== Proof.Protocol.lean ====
/-
How the four devices talk: who signals, sends and waits on which semaphore, what each of those hands over, what a device
still owes at each moment, and what the numbers in flight are.
-/
module

public import proofs.«01_k».proof.Proof.Shape
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's copy and the exchange's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

set_option backward.proofsInPublic true in
/-- The device `j + 1` steps ahead of `c`. -/
def peer (j : Fin 3) (c : Dev nD) : Dev nD := ⟨(c.val + j.val + 1) % 4, Nat.mod_lt _ (by decide)⟩

theorem rev_rev (j : Fin 3) : rev (rev j) = j := by revert j; decide
theorem peer_rev (j : Fin 3) (c : Dev nD) : peer (rev j) (peer j c) = c := by revert j c; decide
theorem peer_rev' (j : Fin 3) (c : Dev nD) : peer j (peer (rev j) c) = c := by revert j c; decide

theorem peerDev_eq (d : Dev nD) (j : Fin 3) : peerDev d j = peer j d := by
  match j with
  | 0 => exact Fin.ext ((k0_dev1_eq d).trans (by revert d; decide))
  | 1 => exact Fin.ext ((k0_dev2_eq d).trans (by revert d; decide))
  | 2 => exact Fin.ext ((k0_dev3_eq d).trans (by revert d; decide))

/-- Going `j + 1` steps ahead, as a permutation of the devices. -/
def around (j : Fin 3) : Dev nD ≃ Dev nD := ⟨peer j, peer (rev j), peer_rev j, peer_rev' j⟩

/-! ## The semaphores and their cells -/

/-- A transfer: layer, row chunk, and which of the three. -/
abbrev Key : Type := Fin 3 × Fin 4 × Fin 3
/-- A device's semaphores: the barrier (`none`), the send side and the receive side of each transfer. -/
abbrev CI : Type := Option (Bool × Key)

abbrev osem : Bool × Key → SemLoc sig := fun
  | (false, k) => .dma (sendS k.1 k.2.1 k.2.2)
  | (true, k) => .dma (recvS k.1 k.2.1 k.2.2)
abbrev csem : CI → SemLoc sig := fun | none => .reg barS | some x => osem x

theorem sendS_val (l : Fin 3) (h : Fin 4) (j : Fin 3) : (sendS l h j).val = 8 + (12 * l.val + 3 * h.val + j.val) := by
  revert l h j; decide
theorem recvS_val (l : Fin 3) (h : Fin 4) (s : Fin 3) : (recvS l h s).val = 44 + (12 * l.val + 3 * h.val + s.val) := by
  revert l h s; decide

theorem osem_injective : Function.Injective osem := by
  rintro ⟨b, l, h, j⟩ ⟨b', l', h', j'⟩ e
  have key : ∀ (a a' : DmaSem sig), (SemLoc.dma a : SemLoc sig) = .dma a' → a.val = a'.val := fun a a' e => by cases e; rfl
  have hl := l.isLt; have hl' := l'.isLt; have hh := h.isLt; have hh' := h'.isLt; have hj := j.isLt; have hj' := j'.isLt
  cases b <;> cases b' <;> have e := key _ _ e <;> simp only [sendS_val, recvS_val] at e
  · have h1 : l = l' := Fin.ext (by omega)
    have h2 : h = h' := Fin.ext (by omega)
    have h3 : j = j' := Fin.ext (by omega)
    rw [h1, h2, h3]
  · omega
  · omega
  · have h1 : l = l' := Fin.ext (by omega)
    have h2 : h = h' := Fin.ext (by omega)
    have h3 : j = j' := Fin.ext (by omega)
    rw [h1, h2, h3]

theorem csem_injective : Function.Injective csem := by
  rintro (_ | ⟨b, k⟩) (_ | ⟨b', k'⟩) e
  · rfl
  · cases b' <;> cases e
  · cases b <;> cases e
  · exact congrArg some (osem_injective e)

/-- Which of a device's semaphores this is, if the exchange uses it. -/
def keyOf (sm : SemLoc sig) : Option CI := Function.partialInv csem sm
theorem keyOf_csem (i : CI) : keyOf (csem i) = some i := Function.partialInv_left csem_injective i
theorem keyOf_eq {sm : SemLoc sig} {i : CI} (h : keyOf sm = some i) : csem i = sm :=
  (Function.partialInv_of_injective csem_injective i sm).mp h

abbrev kcell (ck : Dev nD × CI) : GSem nD τ sig := ((ck.1 : Thread nD τ), csem ck.2)
abbrev barCell (c : Dev nD) : GSem nD τ sig := kcell (c, none)
abbrev sendCell (c : Dev nD) (l : Fin 3) (h : Fin 4) (j : Fin 3) : GSem nD τ sig := kcell (c, some (false, l, h, j))
abbrev recvCell (c : Dev nD) (l : Fin 3) (h : Fin 4) (s : Fin 3) : GSem nD τ sig := kcell (c, some (true, l, h, s))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The amount one transfer adds on each side. -/
abbrev N : ℕ := (commM 0 0 0).view.dmaCredit
theorem N_comm (l : Fin 3) (h : Fin 4) (s : Fin 3) : (commM l h s).view.dmaCredit = N := rfl
theorem N_send (l : Fin 3) (h : Fin 4) : (sendM l h).view.dmaCredit = N := rfl
theorem N_pos : 0 < N := View.dmaCredit_pos _ (by decide)

/-! ## The numbers -/

/-- The input and layer `l`'s two weight blocks on device `c`. -/
def xv (c : Dev nD) : Vec F S256x256 .bf16 := m ((c : Thread nD τ).loc main_arg0)
def wiv (l : Fin 3) (c : Dev nD) : Vec F S256x512 .bf16 :=
  match l with
  | 0 => m ((c : Thread nD τ).loc main_arg1)
  | 1 => m ((c : Thread nD τ).loc main_arg2)
  | 2 => m ((c : Thread nD τ).loc main_arg3)
def wov (l : Fin 3) (c : Dev nD) : Vec F S512x256 .bf16 :=
  match l with
  | 0 => m ((c : Thread nD τ).loc main_arg4)
  | 1 => m ((c : Thread nD τ).loc main_arg5)
  | 2 => m ((c : Thread nD τ).loc main_arg6)

/-- A partial result as it travels. -/
def rnd (p : FVec F S64x256 .f32) : FVec F S64x256 .bf16 := truncf .bf16 p bitsLt_bf16_f32
/-- and widened again where it arrives. -/
def wide (p : FVec F S64x256 .bf16) : FVec F S64x256 .f32 := extf .f32 p bitsLt_bf16_f32

/-- Every device's partial result at layer `l` from every device's rows. -/
def partOf (l : Fin 3) (X : Dev nD → FVec F S64x256 .bf16) (c : Dev nD) : FVec F S64x256 .f32 :=
  mm (X c) (winVal (wiv m l c)) (woutVal (wov m l c))
/-- A device's own partial result plus the other three's, in the order the kernel adds them. -/
def totOf (P : Dev nD → FVec F S64x256 .f32) (c : Dev nD) : FVec F S64x256 .f32 :=
  addf (addf (addf (P c) (wide (rnd (P (peer 1 c))))) (wide (rnd (P (peer 2 c))))) (wide (rnd (P (peer 0 c))))

def inp0 (h : Fin 4) (c : Dev nD) : FVec F S64x256 .bf16 := chunk h (xv m c)
def inp1 (h : Fin 4) (c : Dev nD) : FVec F S64x256 .bf16 := rnd (totOf (partOf m 0 (inp0 m h)) c)
def inp2 (h : Fin 4) (c : Dev nD) : FVec F S64x256 .bf16 := rnd (totOf (partOf m 1 (inp1 m h)) c)
/-- Chunk `h` of layer `l`'s input on device `c`. -/
def inp (l : Fin 3) (h : Fin 4) : Dev nD → FVec F S64x256 .bf16 :=
  match l with | 0 => inp0 m h | 1 => inp1 m h | 2 => inp2 m h
/-- Device `c`'s partial result for chunk `h` at layer `l`, and the sum over the devices. -/
def part (l : Fin 3) (h : Fin 4) : Dev nD → FVec F S64x256 .f32 := partOf m l (inp m l h)
def tot (l : Fin 3) (h : Fin 4) : Dev nD → FVec F S64x256 .f32 := totOf (part m l h)

/-! ## What is handed over -/

/-- Which share of a send slot each of its three transfers reads. -/
def sh (j : Fin 3) : PosShare TreeShare :=
  match j with | 1 => fullShare.left | 0 => fullShare.right.left | 2 => fullShare.right.right

/-- Device `c`'s receive slot `(l, h, s)`, at any contents. -/
def slotAny (c : Dev nD) (l : Fin 3) (h : Fin 4) (s : Fin 3) : sProp 𝕄 :=
  iprop(∃ f, (commM l h s).view.loc (c : Thread nD τ) ↦[(commM l h s).view.set]{fullShare} f)

/-- Device `c`'s barrier duty `j`, paid by the device it will send to: that device's receive slots `j`, all of them. -/
def barPay (c : Dev nD) (j : Fin 3) : sProp 𝕄 :=
  bigSep Finset.univ fun lh : Fin 3 × Fin 4 => slotAny (peer (rev j) c) lh.1 lh.2 j
/-- An arrival at device `c`: its slot, holding the sender's partial result as it travels. -/
def recvPay (c : Dev nD) (k : Key) : sProp 𝕄 :=
  owns (c : Thread nD τ) (commM k.1 k.2.1 k.2.2) fullShare (rnd (part m k.1 k.2.1 (peer k.2.2 c)))
/-- A departure from device `c`: the share of the send slot the transfer read. -/
def sendPay (c : Dev nD) (k : Key) : sProp 𝕄 :=
  owns (c : Thread nD τ) (sendM k.1 k.2.1) (sh k.2.2) (rnd (part m k.1 k.2.1 c))

instance barPay_storable (c : Dev nD) (j : Fin 3) : BI.Storable (upEmb : UEmb _ 𝕄) (barPay (F := F) c j) := by
  unfold barPay slotAny; infer_instance
instance recvPay_storable (c : Dev nD) (k : Key) : BI.Storable (upEmb : UEmb _ 𝕄) (recvPay (F := F) m c k) := by
  unfold recvPay; infer_instance
instance sendPay_storable (c : Dev nD) (k : Key) : BI.Storable (upEmb : UEmb _ 𝕄) (sendPay (F := F) m c k) := by
  unfold sendPay; infer_instance

def dutiesOf : Option CI → Finset (Fin 3) := fun | some none => Finset.univ | some (some _) => {0} | none => ∅
def amountOf : Option CI → ℕ := fun | some (some _) => N | _ => 1
def payOf (c : Dev nD) (d : Fin 3) : Option CI → sProp 𝕄 := fun
  | some none => barPay c d
  | some (some (false, k)) => sendPay m c k
  | some (some (true, k)) => recvPay m c k
  | none => iprop(emp)

instance payOf_storable (c : Dev nD) (d : Fin 3) (i : Option CI) : BI.Storable (upEmb : UEmb _ 𝕄) (payOf (F := F) m c d i) := by
  match i with
  | some none => exact barPay_storable c d
  | some (some (false, k)) => exact sendPay_storable m c k
  | some (some (true, k)) => exact recvPay_storable m c k
  | none => show BI.Storable _ iprop(emp); infer_instance

/-- One round, round 0: a barrier has three duties of one unit, each side of a transfer one duty of the transfer's amount. -/
def Rd : Rounds.Schedule (GSem nD τ sig) (Fin 3) 𝕄 where
  duties g r := if r = 0 ∧ g.1.2 = .tc then dutiesOf (keyOf g.2) else ∅
  unitless _ := False
  amount g _ _ := amountOf (keyOf g.2)
  payload g _ d := payOf m g.1.1 d (keyOf g.2)
  amount_pos g _ _ _ := by
    match keyOf g.2 with
    | some none => exact Nat.one_pos
    | some (some _) => exact N_pos
    | none => exact Nat.one_pos

instance Rd_payload_storable (g : GSem nD τ sig) (r : ℕ) (d : Fin 3) :
    BI.Storable (upEmb : UEmb _ 𝕄) ((Rd (F := F) m).payload g r d) := payOf_storable m g.1.1 d (keyOf g.2)

section Sched
variable (c : Dev nD)

theorem duties_eq (i : CI) : (Rd (F := F) m).duties (kcell (c, i)) 0 = dutiesOf (some i) := by
  have h0 : (0 = 0 ∧ ((c : Thread nD τ)).2 = .tc) := ⟨rfl, rfl⟩
  have h1 : (Rd (F := F) m).duties (kcell (c, i)) 0 = dutiesOf (keyOf (csem i)) := by dsimp only [Rd]; exact if_pos h0
  rw [h1, keyOf_csem]
theorem duties_bar : (Rd (F := F) m).duties (barCell c) 0 = Finset.univ := duties_eq m c none
theorem duties_xfer (x : Bool × Key) : (Rd (F := F) m).duties (kcell (c, some x)) 0 = {0} := duties_eq m c (some x)
theorem duties_later (g : GSem nD τ sig) : ∀ r, 1 ≤ r → (Rd (F := F) m).duties g r = ∅ :=
  fun r hr => if_neg fun h => by omega
theorem amount_bar (d : Fin 3) : (Rd (F := F) m).amount (barCell c) 0 d = 1 := by
  show amountOf (keyOf (csem none)) = 1; rw [keyOf_csem]; rfl
theorem amount_xfer (x : Bool × Key) (d : Fin 3) : (Rd (F := F) m).amount (kcell (c, some x)) 0 d = N := by
  show amountOf (keyOf (csem (some x))) = N; rw [keyOf_csem]; rfl
theorem expect_bar : (Rd (F := F) m).expect (barCell c) 0 = 3 := by
  unfold Schedule.expect Schedule.amountOf
  rw [duties_bar, Finset.sum_congr rfl fun d _ => amount_bar m c d]; rfl
theorem expect_xfer (x : Bool × Key) : (Rd (F := F) m).expect (kcell (c, some x)) 0 = N := by
  unfold Schedule.expect Schedule.amountOf; rw [duties_xfer, Finset.sum_singleton, amount_xfer]
theorem payload_bar (d : Fin 3) : (Rd (F := F) m).payload (barCell c) 0 d = barPay c d := by
  show payOf m c d (keyOf (csem none)) = _; rw [keyOf_csem]; rfl
theorem payload_send (k : Key) (d : Fin 3) : (Rd (F := F) m).payload (kcell (c, some (false, k))) 0 d = sendPay m c k := by
  show payOf m c d (keyOf (csem (some (false, k)))) = _; rw [keyOf_csem]; rfl
theorem payload_recv (k : Key) (d : Fin 3) : (Rd (F := F) m).payload (kcell (c, some (true, k))) 0 d = recvPay m c k := by
  show payOf m c d (keyOf (csem (some (true, k)))) = _; rw [keyOf_csem]; rfl
/-- A whole round's payloads. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]
  simp only [bigSepL_cons_cons, bigSepL_singleton, payload_bar]; rfl
theorem rest_send (k : Key) : bigSep ((Rd (F := F) m).duties (kcell (c, some (false, k))) 0 \ ∅)
    (fun d => (Rd (F := F) m).payload (kcell (c, some (false, k))) 0 d) = sendPay m c k := by
  rw [Finset.sdiff_empty, duties_xfer, bigSep_singleton, payload_send]
theorem rest_recv (k : Key) : bigSep ((Rd (F := F) m).duties (kcell (c, some (true, k))) 0 \ ∅)
    (fun d => (Rd (F := F) m).payload (kcell (c, some (true, k))) 0 d) = recvPay m c k := by
  rw [Finset.sdiff_empty, duties_xfer, bigSep_singleton, payload_recv]

end Sched

/-! ## What a device owes, and the order in which waits may happen -/

/-- A row chunk of a layer; the twelve in the order they are sent. -/
abbrev Ch : Type := Fin 3 × Fin 4
def chunks0 : List Ch := [(0, 0), (0, 1), (0, 2), (0, 3)]
def chunks1 : List Ch := [(1, 0), (1, 1), (1, 2), (1, 3)]
def chunks2 : List Ch := [(2, 0), (2, 1), (2, 2), (2, 3)]
def chunks : List Ch := chunks0 ++ (chunks1 ++ chunks2)
theorem chunks_nodup : chunks.Nodup := by decide
theorem chunks_all : chunks.toFinset = Finset.univ := by decide

abbrev CT : Type := CellTallies nD τ sig Unit
/-- The arrival device `c` owes device `peer j c` for `(l, h)`. -/
abbrev owe1 (c : Dev nD) (x : Ch) (j : Fin 3) : CT := tallyAt (recvCell (peer j c) x.1 x.2 (rev j)) () N
/-- The three arrivals of chunk `x`, and those of a list of chunks. -/
def oweCh (c : Dev nD) (x : Ch) : CT := owe1 c x 1 + (owe1 c x 0 + owe1 c x 2)
def oweL (c : Dev nD) : List Ch → CT := fun | [] => 0 | x :: xs => oweCh c x + oweL c xs
/-- The barrier unit device `c` owes device `peer j c`. -/
abbrev oweB (c : Dev nD) (j : Fin 3) : CT := tallyAt (barCell (peer j c)) () 1
/-- All device `c` owes at launch. -/
def O₀ (c : Dev nD) : CT := oweB c 0 + (oweB c 1 + (oweB c 2 + oweL c chunks))

def L (g : GSem nD τ sig) : Finset Unit := if g.1.2 = .tc then {()} else ∅
/-- Barriers at 1, the arrivals of chunk `(l, h)` at `2 + 4 l + h`, everything else at 0. -/
def rank : Option CI → ℕ := fun
  | some none => 1
  | some (some (true, l, h, _)) => 2 + 4 * l.val + h.val
  | _ => 0
def lv (g : GSem nD τ sig) (_ : Unit) : ℕ := rank (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell (c, i)) u = rank (some i) := by
  unfold lv; rw [show (kcell (c, i)).2 = csem i from rfl, keyOf_csem]

/-- `g` is one of the cells a list of chunks owes. -/
theorem oweL_pos {c : Dev nD} {g : GSem nD τ sig} {u : Unit} : ∀ {xs : List Ch}, 0 < oweL c xs g u →
    ∃ x ∈ xs, ∃ d j, g = recvCell d x.1 x.2 j
  | [], h => absurd h (Nat.lt_irrefl 0)
  | x :: xs, h => by
    unfold oweL oweCh at h
    simp only [Pi.add_apply, Finsupp.add_apply, tallyAt_apply] at h
    by_cases h1 : g = recvCell (peer 1 c) x.1 x.2 (rev 1)
    · exact ⟨x, List.mem_cons_self, _, _, h1⟩
    by_cases h0 : g = recvCell (peer 0 c) x.1 x.2 (rev 0)
    · exact ⟨x, List.mem_cons_self, _, _, h0⟩
    by_cases h2 : g = recvCell (peer 2 c) x.1 x.2 (rev 2)
    · exact ⟨x, List.mem_cons_self, _, _, h2⟩
    rw [if_neg (fun h => h1 h.1), if_neg (fun h => h0 h.1), if_neg (fun h => h2 h.1), Nat.zero_add, Nat.zero_add] at h
    obtain ⟨y, hy, r⟩ := oweL_pos h
    exact ⟨y, List.mem_cons_of_mem _ hy, r⟩

theorem O₀_pos {c : Dev nD} {g : GSem nD τ sig} {u : Unit} (h : 0 < O₀ c g u) :
    (∃ d, g = barCell d) ∨ ∃ d l h j, g = recvCell d l h j := by
  unfold O₀ at h
  simp only [Pi.add_apply, Finsupp.add_apply, tallyAt_apply] at h
  by_cases h0 : g = barCell (peer 0 c)
  · exact .inl ⟨_, h0⟩
  by_cases h1 : g = barCell (peer 1 c)
  · exact .inl ⟨_, h1⟩
  by_cases h2 : g = barCell (peer 2 c)
  · exact .inl ⟨_, h2⟩
  rw [if_neg (fun h => h0 h.1), if_neg (fun h => h1 h.1), if_neg (fun h => h2 h.1), Nat.zero_add, Nat.zero_add, Nat.zero_add] at h
  obtain ⟨x, _, d, j, e⟩ := oweL_pos h
  exact .inr ⟨d, _, _, j, e⟩

/-- A wait on a semaphore the exchange does not use may happen whatever of the launch's dues is open. -/
theorem mayWait_stage (c : Dev nD) (q : DmaSem sig) (hq : q.val < 8) (O : CT) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, l, h, j, rfl⟩ <;> exact Finset.mem_singleton_self _)
      (fun p hp => by
        rw [Finset.mem_singleton.mp hp]
        show rank (keyOf (.dma q)) ≤ 0
        have key : ∀ a : DmaSem sig, (SemLoc.dma a : SemLoc sig) = .dma q → a.val < 8 := fun a e => by cases e; exact hq
        match hk : keyOf (.dma q) with
        | none => exact Nat.le_refl 0
        | some none => exact absurd (keyOf_eq hk) (fun h => by cases h)
        | some (some (false, l, h, j)) => exact Nat.le_refl 0
        | some (some (true, l, h, j)) =>
          have := key _ (keyOf_eq hk); simp only [recvS_val] at this; omega)
      (fun g u hg => by
        rcases O₀_pos hg with ⟨d, rfl⟩ | ⟨d, l, h, j, rfl⟩
        · rw [lv_cell]; exact Nat.one_pos
        · rw [lv_cell]; show 0 < 2 + 4 * l.val + h.val; omega)
  · rw [MayWait_zero]; iintro -; iempintro

/-- Waiting on a cell below every chunk still owed. -/
theorem mayWait_cell (c : Dev nD) (i : CI) (xs : List Ch) (hx : ∀ x ∈ xs, rank (some i) < 2 + 4 * x.1.val + x.2.val) :
    (levAts L lv : sProp 𝕄) ⊢ MayWait (c : Thread nD τ) (csem i) () (oweL c xs) :=
  MayOwe.of_cut (L := L) (lev := lv) (rank (some i)) (fun p hp => by rw [Finset.mem_singleton.mp hp, L_tc]; exact Finset.mem_singleton_self _)
    (fun g u hg => by obtain ⟨x, _, d, j, rfl⟩ := oweL_pos hg; exact Finset.mem_singleton_self _)
    (fun p hp => by rw [Finset.mem_singleton.mp hp]; exact le_of_eq (lv_cell c i _))
    (fun g u hg => by
      obtain ⟨x, hxs, d, j, rfl⟩ := oweL_pos hg
      rw [lv_cell]; exact hx x hxs)

end Cert.Mlp

end
-- ==== Proof.Steps.lean ====
/-
What each piece of the kernel does to what a device holds: one transfer, one arrival, the three arrivals of a chunk summed,
a chunk's partial result, the weights put in place, one departure — each stated once for every layer, chunk and transfer.
-/
module

public import proofs.«01_k».proof.Proof.Protocol

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to a state where `Q` holds of its result. -/
abbrev Wp (c : Dev nD) {α : Type} (p : Prog (Eff F) α) (Q : α → sProp 𝕄) : sProp 𝕄 :=
  wp frame (wpE (defs₀ (F := F)) 𝒱₀ (c : Thread nD τ) none) Set.univ p Q

/-! ## What every device knows -/

/-- The cells' invariants under the names `K`, that each cell has begun its round, and the levels. -/
def records (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance records_persistent (K : Dev nD × CI → ℕ) : BI.Persistent (records m K) := by unfold records; infer_instance

theorem inv_at (K : Dev nD × CI → ℕ) (ck : Dev nD × CI) : records m K ⊢ cellInv ER (Rd m) (K ck) (kcell ck) := by
  unfold records; iintro ⟨H, -, -⟩
  iapply (show (bigSep Finset.univ fun ck : Dev nD × CI => (cellInv ER (Rd m) (K ck) (kcell ck) : sProp 𝕄)) ⊢ cellInv ER (Rd m) (K ck) (kcell ck) from
    bigSep_elim (Finset.mem_univ ck))
  iexact H
theorem reached_at (K : Dev nD × CI → ℕ) (ck : Dev nD × CI) : records m K ⊢ reached ER (kcell ck) 0 := by
  unfold records; iintro ⟨-, H, -⟩
  iapply (show (bigSep Finset.univ fun ck : Dev nD × CI => (reached ER (kcell ck) 0 : sProp 𝕄)) ⊢ reached ER (kcell ck) 0 from
    bigSep_elim (Finset.mem_univ ck))
  iexact H
theorem lev_at (K : Dev nD × CI → ℕ) : records m K ⊢ levAts L lv := by
  unfold records; iintro ⟨-, -, H⟩; iexact H

/-- Device `c` owes `O`, whatever it has waited for. -/
def Owes (c : Dev nD) (O : CT) : sProp 𝕄 := iprop(∃ W, owes (c : Thread nD τ) O W)

/-! ## Reading and writing slots -/

theorem read_send (l : Fin 3) (h : Fin 4) (f : (sendM l h).view.ty.Contents (Elt F)) :
    (sendM l h).view.read (Elt F) f
      = shapeCast S64x256 ((sbM.view.slice (rSb l h)).read (Elt F) f) shapeCasts_S1x1x64x256_S64x256 := rfl
theorem read_comm (l : Fin 3) (h : Fin 4) (s : Fin 3) (f : (commM l h s).view.ty.Contents (Elt F)) :
    (commM l h s).view.read (Elt F) f
      = shapeCast S64x256 ((cmM.view.slice (rCm l h s)).read (Elt F) f) shapeCasts_S1x1x1x64x256_S64x256 := rfl

/-- Re-laying out and back gives the same vector. -/
theorem shapeCast_back {α : Type} {s t : Shape} (x : s.Idx → α) (h : s.ShapeCasts t) (h' : t.ShapeCasts s) :
    shapeCast s (shapeCast t x h) h' = x := by
  funext i; unfold shapeCast
  rw [Shape.reshapeEquiv_reshapeEquiv, Shape.reshapeEquiv_self]

theorem set_send (l : Fin 3) (h : Fin 4) : (sendM l h).view.set = (sbM.access (rSb l h)).set := View.set_reshape _ _
theorem set_comm (l : Fin 3) (h : Fin 4) (s : Fin 3) : (commM l h s).view.set = (cmM.access (rCm l h s)).set := View.set_reshape _ _

/-- A partial result stored in its slot reads back as it travels. -/
theorem read_send_store (l : Fin 3) (h : Fin 4) (f : (sendM l h).view.ty.Contents (Elt F)) (p : FVec F S64x256 .f32) :
    (sendM l h).view.read (Elt F) ((sbM.access (rSb l h)).write (Elt F) f (toSend p) Finset.univ) = rnd p := by
  rw [read_send]
  refine (congrArg (fun x => shapeCast S64x256 x shapeCasts_S1x1x64x256_S64x256) (View.read_write_univ _ _)).trans ?_
  exact shapeCast_back _ _ _

/-- Loading a whole memref reads what it holds. -/
theorem readAt_all {sp : Space} {d : Fin 2 → Nat} {e : EltTy} (M : Memref sig .tc sp ⟨2, d⟩ e)
    (inb : ∀ a, (![0, 0] : Fin 2 → Nat) a + d a ≤ d a) (f : M.view.ty.Contents (Elt F)) :
    M.view.readAt (Elt F) (Rect.unit (s := ⟨2, d⟩) ![0, 0] d inb).toLoadRect f = M.view.read (Elt F) f := by
  funext x
  rw [View.readAt_apply]
  congr 1
  funext a; apply Fin.ext
  rw [show ((Rect.unit (s := ⟨2, d⟩) ![0, 0] d inb).toLoadRect.idx x a).val = (![0, 0] : Fin 2 → Nat) a + 1 * (x a).val from rfl]
  match a with
  | 0 => simp
  | 1 => simp

/-! ## One transfer -/

theorem mem_duty (c : Dev nD) (x : Bool × Key) : (0 : Fin 3) ∈ (Rd (F := F) m).duties (kcell (c, some x)) 0 := by
  rw [duties_xfer]; exact Finset.mem_singleton_self _

/-- Transfer `j` of chunk `(l, h)` from device `c`, to the device `n` that is `peer j c`. -/
theorem wp_enq_to (K : Dev nD × CI → ℕ) (c : Dev nD) (l : Fin 3) (h : Fin 4) (j : Fin 3) (O : CT) (Q : PUnit → sProp 𝕄) (n : Dev nD) (hn : n = peer j c)
    {hsc : (commM l h (rev j) : Memref sig (Dev.tc n : Thread nD τ).2.kind .vmem S64x256 .bf16).view.ref.isScScratch = false}
    {hsrc : (sendM l h).view.WordExact} {hdst : (commM l h (rev j)).view.WordExact}
    {hsem : DmaTarget.Typed .vmem (.dma (recvS l h (rev j))) (.remote (Dev.tc n : Thread nD τ) (commM l h (rev j)) (.dma (sendS l h j)) hsc)} :
    iprop(records m K ∗ owns (c : Thread nD τ) (sendM l h) (sh j) (rnd (part m l h c)) ∗ slotAny (peer j c) l h (rev j)
        ∗ Owes c (owe1 c (l, h) j + O) ∗ dutyTok ER (sendCell c l h j) 0 0 ∗ dutyTok ER (recvCell (peer j c) l h (rev j)) 0 0)
      ⊢ iprop(((cred (tallyAt (sendCell c l h j) () N) ∗ Owes c O) -∗ Q ⟨⟩)
        -∗ Wp c (Prog.op (.enqueueDma (sendM l h) (.remote (Dev.tc n : Thread nD τ) (commM l h (rev j)) (.dma (sendS l h j)) hsc)
            (.dma (recvS l h (rev j))) hsrc hdst hsem) Prog.ret) Q) := by
  subst hn
  unfold owns slotAny Owes
  iintro ⟨#HR, ⟨%fs, %hfs, Hs⟩, ⟨%fd, Hd⟩, ⟨%W, HO⟩, Ht1, Ht2⟩ Hk
  iapply (Rounds.wp_send_pointsTo 𝒱₀ ER (Rd m) (c : Thread nD τ) none (c' := (peer j c : Thread nD τ)) (κ₁ := K (c, some (false, l, h, j)))
    (κ₂ := K (peer j c, some (true, l, h, rev j))) (sS := .dma (sendS l h j)) (sem := .dma (recvS l h (rev j))) (src := sendM l h)
    (dst := commM l h (rev j)) (hsc := hsc) (hsrc := hsrc) (hdst := hdst) (hsem := hsem) (k := Prog.ret) (q := sh j) (fs := fs)
    (r₁ := 0) (r₂ := 0) (d₁ := 0) (d₂ := 0) (fd := fd)
    (mem_duty m c (false, l, h, j)) (mem_duty m (peer j c) (true, l, h, rev j))
    () () N rfl (amount_xfer m c (false, l, h, j) 0) (amount_xfer m (peer j c) (true, l, h, rev j) 0) O (add_comm _ _) (W := W)
    (by
      rw [show (Rd (F := F) m).payload ((c : Thread nD τ), .dma (sendS l h j)) 0 0 = sendPay m c (l, h, j) from payload_send m c (l, h, j) 0]
      unfold sendPay owns
      iintro H; iexists fs; isplitr; · ipureintro; exact hfs
      iexact H)
    (by
      rw [show (Rd (F := F) m).payload ((peer j c : Thread nD τ), .dma (recvS l h (rev j))) 0 0 = recvPay m (peer j c) (l, h, rev j) from
        payload_recv m (peer j c) (l, h, rev j) 0]
      unfold recvPay owns
      iintro H; iexists (commM l h (rev j)).view.write (Elt F) fd ((sendM l h).view.read (Elt F) fs) Finset.univ; isplitr
      · ipureintro; exact (View.read_write_univ _ _).trans (hfs.trans (by dsimp only; rw [peer_rev]))
      iexact H)) $$ [Hs Hd HO Ht1 Ht2]
  · isplitr; · iapply (inv_at m K (c, some (false, l, h, j))); iexact HR
    isplitr; · iapply (inv_at m K (peer j c, some (true, l, h, rev j))); iexact HR
    isplitl [Hs]; · iexact Hs
    isplitl [Hd]; · iexact Hd
    isplitl [HO]; · iexact HO
    isplitl [Ht1]; · iexact Ht1
    isplitr; · iapply (reached_at m K (c, some (false, l, h, j))); iexact HR
    isplitl [Ht2]; · iexact Ht2
    iapply (reached_at m K (peer j c, some (true, l, h, rev j))); iexact HR
  iintro ⟨Hc, HO⟩
  rw [wp_ret]; imodintro
  iapply Hk
  isplitl [Hc]; · iexact Hc
  iexists W; iexact HO

theorem wp_enq (K : Dev nD × CI → ℕ) (c : Dev nD) (l : Fin 3) (h : Fin 4) (j : Fin 3) (O : CT) (Q : PUnit → sProp 𝕄) :
    iprop(records m K ∗ owns (c : Thread nD τ) (sendM l h) (sh j) (rnd (part m l h c)) ∗ slotAny (peer j c) l h (rev j)
        ∗ Owes c (owe1 c (l, h) j + O) ∗ dutyTok ER (sendCell c l h j) 0 0 ∗ dutyTok ER (recvCell (peer j c) l h (rev j)) 0 0)
      ⊢ iprop(((cred (tallyAt (sendCell c l h j) () N) ∗ Owes c O) -∗ Q ⟨⟩) -∗ Wp c (enq c l h j) Q) :=
  wp_enq_to m K c l h j O Q (peerDev c j) (peerDev_eq c j)

/-! ## One arrival -/

theorem wp_recvOne (K : Dev nD × CI → ℕ) (c : Dev nD) (l : Fin 3) (h : Fin 4) (s : Fin 3) (xs : List Ch)
    (hx : ∀ x ∈ xs, 4 * l.val + h.val < 4 * x.1.val + x.2.val) (Q : Vec F S1x1x1x64x256 .bf16 → sProp 𝕄) :
    iprop(records m K ∗ cred (tallyAt (recvCell c l h s) () N) ∗ atPos ER (recvCell c l h s) 0 ∅ 0 ∗ Owes c (oweL c xs))
      ⊢ iprop((∀ v, ⌜got v = wide (rnd (part m l h (peer s c)))⌝ -∗ (semVal (recvCell c l h s) 0 ∗ slotAny c l h s ∗ Owes c (oweL c xs)) -∗ Q v)
          -∗ Wp c (recvOne l h s) Q) := by
  unfold recvOne
  simp only [Prog.lift, Prog.bind_op, Prog.bind_ret, Prog.pure_eq_ret]
  unfold Owes
  iintro ⟨#HR, Hc, Hat, ⟨%W, HO⟩⟩ Hk
  iapply (Rounds.wp_wait_rest_token 𝒱₀ ER (Rd m) (c : Thread nD τ) none (κ := K (c, some (true, l, h, s)))
      (wpE_waitDma2_eq 𝒱₀ (c : Thread nD τ) none Set.univ) (Set.mem_univ _) () (O := oweL c xs) (W := W) (R := 0) (m := 0) (T := ∅)
      (by rw [Nat.zero_add]; exact (expect_xfer m c (true, l, h, s)).symm)) $$ [Hc HO Hat]
  · isplitr; · iapply (inv_at m K (c, some (true, l, h, s))); iexact HR
    isplitl [Hc]; · iexact Hc
    isplitl [HO]; · iexact HO
    isplitr
    · iapply (mayWait_cell c (some (true, l, h, s)) xs (fun x hm => by have := hx x hm; show 2 + 4 * l.val + h.val < _; omega))
      iapply (lev_at m K); iexact HR
    iexact Hat
  iintro ⟨HO, Hat, -, Hpay⟩
  ihave Hp := (Entails.of_eq (rest_recv m c (l, h, s))) $$ Hpay
  imod (Rounds.cell_close ER (Rd m) (Set.mem_univ (K (c, some (true, l, h, s)))) (fun h => h) (R := 0 + 1) (duties_later m (recvCell c l h s))) $$ [Hat] with Hz
  · isplitr; · iapply (inv_at m K (c, some (true, l, h, s))); iexact HR
    iexact Hat
  unfold recvPay owns
  icases Hp with ⟨%f, %hf, Hp⟩
  iapply (wp_load_rect 𝒱₀ (c : Thread nD τ) none Set.univ (m := cmM) (r := rCm l h s) (f := f) (S := (commM l h s).view.set)
    (by rw [set_comm])) $$ Hp
  iintro Hp
  rw [wp_ret]; imodintro
  iapply Hk
  · ipureintro
    rw [← hf]; rfl
  isplitl [Hz]; · iexact Hz
  isplitl [Hp]; · unfold slotAny; iexists f; iexact Hp
  iexists _; iexact HO

/-! ## One departure -/

theorem wp_unsend (K : Dev nD × CI → ℕ) (c : Dev nD) (l : Fin 3) (h : Fin 4) (j : Fin 3) (Q : PUnit → sProp 𝕄) :
    iprop(records m K ∗ cred (tallyAt (sendCell c l h j) () N) ∗ atPos ER (sendCell c l h j) 0 ∅ 0 ∗ Owes c 0)
      ⊢ iprop(((semVal (sendCell c l h j) 0 ∗ owns (c : Thread nD τ) (sendM l h) (sh j) (rnd (part m l h c)) ∗ Owes c 0) -∗ Q ⟨⟩)
          -∗ Wp c (unsend l h j) Q) := by
  unfold unsend Prog.lift
  unfold Owes
  iintro ⟨#HR, Hc, Hat, ⟨%W, HO⟩⟩ Hk
  iapply (Rounds.wp_wait_rest_token 𝒱₀ ER (Rd m) (c : Thread nD τ) none (κ := K (c, some (false, l, h, j)))
      (wpE_waitDma2_eq 𝒱₀ (c : Thread nD τ) none Set.univ) (Set.mem_univ _) () (O := 0) (W := W) (R := 0) (m := 0) (T := ∅)
      (by rw [Nat.zero_add]; exact (expect_xfer m c (false, l, h, j)).symm)) $$ [Hc HO Hat]
  · isplitr; · iapply (inv_at m K (c, some (false, l, h, j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c (l, h, j))) $$ Hpay
  imod (Rounds.cell_close ER (Rd m) (Set.mem_univ (K (c, some (false, l, h, j)))) (fun h => h) (R := 0 + 1) (duties_later m (sendCell c l h j))) $$ [Hat] with Hz
  · isplitr; · iapply (inv_at m K (c, some (false, l, h, j))); iexact HR
    iexact Hat
  rw [wp_ret]; imodintro
  iapply Hk
  isplitl [Hz]; · iexact Hz
  isplitl [Hp]; · unfold sendPay; iexact Hp
  iexists _; iexact HO

end Cert.Mlp

end
-- ==== Proof.State.lean ====
/-
What a device holds between the pieces of the kernel, as counts of how far it has come, and how each piece moves a count on.
-/
module

public import proofs.«01_k».proof.Proof.Steps

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One piece, then the rest; and nothing left to do. -/
theorem wp_seq (c : Dev nD) {α β : Type} (p : Prog (Eff F) α) (k : α → Prog (Eff F) β) (Q : β → sProp 𝕄) :
    Wp c p (fun a => Wp c (k a) Q) ⊢ Wp c (p >>= k) Q := Entails.of_eq (wp_bind _ _ _ p k Q).symm
theorem wp_done (c : Dev nD) {α : Type} (a : α) (Q : α → sProp 𝕄) : Q a ⊢ Wp c (.ret a) Q := by
  unfold Wp; rw [wp_ret]; iintro H; imodintro; iexact H

/-! ## Families with one member changed -/

/-- One member of a family taken out, to be put back changed. -/
theorem swap_at {I : Type} [Fintype I] [DecidableEq I] (i : I) (Φ Ψ : I → sProp 𝕄) (h : ∀ y, y ≠ i → Φ y = Ψ y) :
    bigSep Finset.univ Φ ⊢ iprop(Φ i ∗ (Ψ i -∗ bigSep Finset.univ Ψ)) := by
  have e1 : bigSep Finset.univ Φ ⊢ iprop(Φ i ∗ bigSep (Finset.univ.erase i) Φ) := Entails.of_eq (bigSep_erase (Finset.mem_univ i))
  have e2 : iprop(Ψ i ∗ bigSep (Finset.univ.erase i) Ψ) ⊢ bigSep Finset.univ Ψ := Entails.of_eq (bigSep_erase (Finset.mem_univ i)).symm
  have e3 : bigSep (Finset.univ.erase i) Φ = bigSep (Finset.univ.erase i) Ψ := bigSep_congr fun y hy => h y (Finset.ne_of_mem_erase hy)
  iintro H
  ihave H := e1 $$ H
  icases H with ⟨Ha, Hb⟩
  isplitl [Ha]; · iexact Ha
  iintro Hc
  iapply e2
  isplitl [Hc]; · iexact Hc
  rw [← e3]; iexact Hb

/-! ## The exchange -/

/-- A chunk's place in the order of sending. -/
def pos (x : Ch) : ℕ := 4 * x.1.val + x.2.val
theorem pos_inj {x y : Ch} (h : pos x = pos y) : x = y := by
  unfold pos at h
  have := x.2.isLt; have := y.2.isLt
  exact Prod.ext (Fin.ext (by omega)) (Fin.ext (by omega))
theorem pos_lt (x : Ch) : pos x < 12 := by unfold pos; have := x.1.isLt; have := x.2.isLt; omega
theorem drop_pos (x : Ch) : chunks.drop (pos x) = x :: chunks.drop (pos x + 1) := by revert x; decide
theorem drop_above (s : Fin 13) : ∀ y ∈ chunks.drop s.val, s.val ≤ 4 * y.1.val + y.2.val := by revert s; decide

/-- One thing for each of a chunk's three transfers. -/
def tri (Φ : Fin 3 → sProp 𝕄) : sProp 𝕄 := iprop(Φ 1 ∗ Φ 0 ∗ Φ 2)

/-- The rights to make a chunk's transfer `j`; the slot on the other device it fills. -/
def tokOf1 (c : Dev nD) (x : Ch) (j : Fin 3) : sProp 𝕄 :=
  iprop(dutyTok ER (sendCell c x.1 x.2 j) 0 0 ∗ dutyTok ER (recvCell (peer j c) x.1 x.2 (rev j)) 0 0)
def slotTo (c : Dev nD) (x : Ch) (j : Fin 3) : sProp 𝕄 := slotAny (peer j c) x.1 x.2 (rev j)
/-- Slot `x` of the send buffer at any contents. -/
def bufAny (c : Dev nD) (x : Ch) : sProp 𝕄 :=
  iprop(∃ f, (sendM x.1 x.2).view.loc (c : Thread nD τ) ↦[(sendM x.1 x.2).view.set]{fullShare} f)
def atSend (c : Dev nD) (x : Ch) (j : Fin 3) : sProp 𝕄 := atPos ER (sendCell c x.1 x.2 j) 0 ∅ 0

/-- A chunk not yet sent, in flight, and departed; not yet received, and received. -/
def ready (c : Dev nD) (x : Ch) : sProp 𝕄 := iprop(tri (tokOf1 c x) ∗ tri (slotTo c x) ∗ bufAny c x ∗ tri (atSend c x))
def fly (c : Dev nD) (x : Ch) : sProp 𝕄 := tri fun j => iprop(cred (tallyAt (sendCell c x.1 x.2 j) () N) ∗ atSend c x j)
def gone (c : Dev nD) (x : Ch) : sProp 𝕄 := iprop(tri (fun j => semVal (sendCell c x.1 x.2 j) 0) ∗ bufAny c x)
def due (c : Dev nD) (x : Ch) : sProp 𝕄 :=
  tri fun s => iprop(cred (tallyAt (recvCell c x.1 x.2 s) () N) ∗ atPos ER (recvCell c x.1 x.2 s) 0 ∅ 0)
def came (c : Dev nD) (x : Ch) : sProp 𝕄 := tri fun s => iprop(semVal (recvCell c x.1 x.2 s) 0 ∗ slotAny c x.1 x.2 s)

def sndP (c : Dev nD) (s u : ℕ) (x : Ch) : sProp 𝕄 := if pos x < s then (if pos x < u then gone c x else fly c x) else ready c x
def rcvP (c : Dev nD) (r : ℕ) (x : Ch) : sProp 𝕄 := if pos x < r then came c x else due c x

/-- Device `c` with `s` chunks sent, `r` received and `u` departures waited for. -/
def Xst (K : Dev nD × CI → ℕ) (c : Dev nD) (s r u : ℕ) : sProp 𝕄 :=
  iprop(records m K ∗ Owes c (oweL c (chunks.drop s)) ∗ bigSep Finset.univ (sndP c s u) ∗ bigSep Finset.univ (rcvP c r))

theorem sndP_ready (c : Dev nD) {s u : ℕ} {x : Ch} (h : pos x = s) : sndP (F := F) c s u x = ready c x := if_neg (by omega)
theorem sndP_fly (c : Dev nD) {s u : ℕ} {x : Ch} (h : pos x < s) (h' : u ≤ pos x) : sndP (F := F) c s u x = fly c x := by
  unfold sndP; rw [if_pos h, if_neg (by omega)]
theorem sndP_gone (c : Dev nD) {s u : ℕ} {x : Ch} (h : pos x < s) (h' : pos x < u) : sndP (F := F) c s u x = gone c x := by
  unfold sndP; rw [if_pos h, if_pos h']
theorem sndP_sent (c : Dev nD) {s u : ℕ} {x : Ch} (h : pos x = s) (y : Ch) (hy : y ≠ x) : sndP (F := F) c s u y = sndP c (s + 1) u y := by
  have : pos y ≠ s := fun e => hy (pos_inj (e.trans h.symm))
  unfold sndP; congr 1; exact propext (by omega)
theorem sndP_left (c : Dev nD) {s u : ℕ} {x : Ch} (h : pos x = u) (y : Ch) (hy : y ≠ x) : sndP (F := F) c s u y = sndP c s (u + 1) y := by
  have : pos y ≠ u := fun e => hy (pos_inj (e.trans h.symm))
  unfold sndP; congr 1; congr 1; exact propext (by omega)
theorem rcvP_due (c : Dev nD) {r : ℕ} {x : Ch} (h : pos x = r) : rcvP (F := F) c r x = due c x := if_neg (by omega)
theorem rcvP_came (c : Dev nD) {r : ℕ} {x : Ch} (h : pos x < r) : rcvP (F := F) c r x = came c x := if_pos h
theorem rcvP_got (c : Dev nD) {r : ℕ} {x : Ch} (h : pos x = r) (y : Ch) (hy : y ≠ x) : rcvP (F := F) c r y = rcvP c (r + 1) y := by
  have : pos y ≠ r := fun e => hy (pos_inj (e.trans h.symm))
  unfold rcvP; congr 1; exact propext (by omega)

/-! ## Sending a chunk -/

/-- A chunk's slot written with its partial result, in the three shares its transfers read. -/
theorem shares (c : Dev nD) (l : Fin 3) (h : Fin 4) (X : FVec F S64x256 .bf16) :
    owns (c : Thread nD τ) (sendM l h) fullShare X ⊣⊢ (tri fun j => owns (c : Thread nD τ) (sendM l h) (sh j) X : sProp 𝕄) := by
  unfold tri
  constructor
  · iintro H
    ihave H := (owns_halves (c : Thread nD τ) (sendM l h) fullShare X).1 $$ H
    icases H with ⟨H1, H⟩
    ihave H := (owns_halves (c : Thread nD τ) (sendM l h) fullShare.right X).1 $$ H
    icases H with ⟨H0, H2⟩
    isplitl [H1]; · iexact H1
    isplitl [H0]; · iexact H0
    iexact H2
  · iintro ⟨H1, H0, H2⟩
    iapply (owns_halves (c : Thread nD τ) (sendM l h) fullShare X).2
    isplitl [H1]; · iexact H1
    iapply (owns_halves (c : Thread nD τ) (sendM l h) fullShare.right X).2
    isplitl [H0]; · iexact H0
    iexact H2

theorem wp_sendCh (K : Dev nD × CI → ℕ) (c : Dev nD) (l : Fin 3) (h : Fin 4) (p : FVec F S64x256 .f32) (hp : p = part m l h c) (O : CT)
    (Q : PUnit → sProp 𝕄) :
    iprop(records m K ∗ ready c (l, h) ∗ Owes c (oweCh c (l, h) + O))
      ⊢ iprop(((fly c (l, h) ∗ Owes c O) -∗ Q ⟨⟩) -∗ Wp c (send c l h p) Q) := by
  unfold send ready bufAny oweCh
  simp only [Prog.lift, Prog.bind_op, Prog.bind_ret, add_assoc]
  iintro ⟨#HR, ⟨Ht, Hd, ⟨%f, Hb⟩, Ha⟩, HO⟩ Hk
  iapply (wp_load_rect 𝒱₀ (c : Thread nD τ) none Set.univ (m := sbM) (r := rSb l h) (f := f) (S := (sendM l h).view.set)
    (by rw [set_send])) $$ Hb
  iintro Hb
  iapply (wp_store 𝒱₀ (c : Thread nD τ) none Set.univ (m := sbM) (r := rSb l h) (Mk := Finset.univ) (f := f) (S := (sendM l h).view.set)
    (by rw [View.setOn_univ, set_send])) $$ Hb
  iintro Hb
  have own : (((sbM.access (rSb l h)).loc (c : Thread nD τ)) ↦[(sendM l h).view.set]{fullShare}
        ((sbM.access (rSb l h)).write (Elt F) f (toSend p) Finset.univ) : sProp 𝕄)
      ⊢ owns (c : Thread nD τ) (sendM l h) fullShare (rnd (part m l h c)) := by
    unfold owns
    iintro H; iexists ((sbM.access (rSb l h)).write (Elt F) f (toSend p) Finset.univ); isplitr
    · ipureintro; rw [← hp]; exact read_send_store l h f p
    iexact H
  ihave Hb := own $$ Hb
  ihave Hb := (shares c l h _).1 $$ Hb
  unfold tri tokOf1 slotTo
  icases Hb with ⟨Hb1, Hb0, Hb2⟩
  icases Ht with ⟨⟨Hs1, Hr1⟩, ⟨Hs0, Hr0⟩, ⟨Hs2, Hr2⟩⟩
  icases Hd with ⟨Hd1, Hd0, Hd2⟩
  icases Ha with ⟨Ha1, Ha0, Ha2⟩
  iapply (wp_seq c _ _ _)
  iapply (wp_enq m K c l h 1 (owe1 c (l, h) 0 + (owe1 c (l, h) 2 + O)) _) $$ [Hb1 Hd1 HO Hs1 Hr1]
  · isplitr; · iexact HR
    isplitl [Hb1]; · iexact Hb1
    isplitl [Hd1]; · iexact Hd1
    isplitl [HO]; · iexact HO
    isplitl [Hs1]; · iexact Hs1
    iexact Hr1
  iintro ⟨Hc1, HO⟩
  iapply (wp_seq c _ _ _)
  iapply (wp_enq m K c l h 0 (owe1 c (l, h) 2 + O) _) $$ [Hb0 Hd0 HO Hs0 Hr0]
  · isplitr; · iexact HR
    isplitl [Hb0]; · iexact Hb0
    isplitl [Hd0]; · iexact Hd0
    isplitl [HO]; · iexact HO
    isplitl [Hs0]; · iexact Hs0
    iexact Hr0
  iintro ⟨Hc0, HO⟩
  iapply (wp_enq m K c l h 2 O _) $$ [Hb2 Hd2 HO Hs2 Hr2]
  · isplitr; · iexact HR
    isplitl [Hb2]; · iexact Hb2
    isplitl [Hd2]; · iexact Hd2
    isplitl [HO]; · iexact HO
    isplitl [Hs2]; · iexact Hs2
    iexact Hr2
  iintro ⟨Hc2, HO⟩
  iapply Hk
  isplitr [HO]
  · unfold fly tri
    isplitl [Hc1 Ha1]; · isplitl [Hc1] <;> iassumption
    isplitl [Hc0 Ha0]; · isplitl [Hc0] <;> iassumption
    isplitl [Hc2] <;> iassumption
  iexact HO

/-- Chunk `(l, h)` sent: one more sent. -/
theorem wp_send (K : Dev nD × CI → ℕ) (c : Dev nD) (l : Fin 3) (h : Fin 4) (p : FVec F S64x256 .f32) (hp : p = part m l h c) {s r : ℕ}
    (hs : pos (l, h) = s) (Q : PUnit → sProp 𝕄) :
    Xst m K c s r 0 ⊢ iprop((Xst m K c (s + 1) r 0 -∗ Q ⟨⟩) -∗ Wp c (send c l h p) Q) := by
  unfold Xst
  rw [show chunks.drop s = (l, h) :: chunks.drop (s + 1) from hs ▸ drop_pos (l, h)]
  iintro ⟨#HR, HO, HS, HV⟩ Hk
  ihave HS := (swap_at (l, h) (sndP c s 0) (sndP c (s + 1) 0) (sndP_sent c hs)) $$ HS
  icases HS with ⟨Hx, HS⟩
  ihave Hx := (Entails.of_eq (sndP_ready (F := F) c (u := 0) hs)) $$ Hx
  iapply (wp_sendCh m K c l h p hp (oweL c (chunks.drop (s + 1))) Q) $$ [Hx HO]
  · isplitr; · iexact HR
    isplitl [Hx]; · iexact Hx
    iexact HO
  iintro ⟨Hx, HO⟩
  iapply Hk
  isplitr; · iexact HR
  isplitl [HO]; · iexact HO
  isplitl [HS Hx]
  · iapply HS
    rw [sndP_fly c (by omega) (Nat.zero_le _)]; iexact Hx
  iexact HV

/-! ## Receiving a chunk -/

/-- Chunk `(l, h)` received and summed: one more received. -/
theorem wp_recvSum (K : Dev nD × CI → ℕ) (c : Dev nD) (l : Fin 3) (h : Fin 4) (p : FVec F S64x256 .f32) (hp : p = part m l h c) {s r : ℕ}
    (hr : pos (l, h) = r) (hrs : r < s) (hs : s < 13) (Q : FVec F S64x256 .f32 → sProp 𝕄) :
    Xst m K c s r 0 ⊢ iprop((Xst m K c s (r + 1) 0 -∗ Q (tot m l h c)) -∗ Wp c (recvSum l h p) Q) := by
  unfold Xst recvSum
  simp only [Prog.pure_eq_ret]
  have hx : ∀ y ∈ chunks.drop s, 4 * l.val + h.val < 4 * y.1.val + y.2.val := fun y hy => by
    have := drop_above ⟨s, hs⟩ y hy; unfold pos at hr; dsimp only at this hr; omega
  iintro ⟨#HR, HO, HS, HV⟩ Hk
  ihave HV := (swap_at (l, h) (rcvP c r) (rcvP c (r + 1)) (rcvP_got c hr)) $$ HV
  icases HV with ⟨Hx, HV⟩
  ihave Hx := (Entails.of_eq ((rcvP_due (F := F) c hr).trans (by unfold due tri; rfl))) $$ Hx
  icases Hx with ⟨⟨Hc1, Ha1⟩, ⟨Hc0, Ha0⟩, ⟨Hc2, Ha2⟩⟩
  iapply (wp_seq c _ _ _)
  iapply (wp_recvOne m K c l h 1 _ hx _) $$ [Hc1 Ha1 HO]
  · isplitr; · iexact HR
    isplitl [Hc1]; · iexact Hc1
    isplitl [Ha1]; · iexact Ha1
    iexact HO
  iintro %v1 %h1 ⟨Hz1, Hl1, HO⟩
  iapply (wp_seq c _ _ _)
  iapply (wp_recvOne m K c l h 2 _ hx _) $$ [Hc2 Ha2 HO]
  · isplitr; · iexact HR
    isplitl [Hc2]; · iexact Hc2
    isplitl [Ha2]; · iexact Ha2
    iexact HO
  iintro %v2 %h2 ⟨Hz2, Hl2, HO⟩
  iapply (wp_seq c _ _ _)
  iapply (wp_recvOne m K c l h 0 _ hx _) $$ [Hc0 Ha0 HO]
  · isplitr; · iexact HR
    isplitl [Hc0]; · iexact Hc0
    isplitl [Ha0]; · iexact Ha0
    iexact HO
  iintro %v0 %h0 ⟨Hz0, Hl0, HO⟩
  iapply (wp_done c _ _)
  rw [show addf (addf (addf p (got v1)) (got v2)) (got v0) = tot m l h c by rw [hp, h1, h2, h0]; rfl]
  iapply Hk
  isplitr; · iexact HR
  isplitl [HO]; · iexact HO
  isplitl [HS]; · iexact HS
  iapply HV
  rw [rcvP_came c (by omega)]
  unfold came tri
  isplitl [Hz1 Hl1]; · isplitl [Hz1] <;> iassumption
  isplitl [Hz0 Hl0]; · isplitl [Hz0] <;> iassumption
  isplitl [Hz2] <;> iassumption

/-! ## Waiting for departures -/

/-- Chunk `(l, h)`'s departures waited for, everything sent and received: one more departed. -/
theorem wp_unsends (K : Dev nD × CI → ℕ) (c : Dev nD) (l : Fin 3) (h : Fin 4) {r u : ℕ} (hu : pos (l, h) = u) (Q : PUnit → sProp 𝕄) :
    Xst m K c 12 r u ⊢ iprop((Xst m K c 12 r (u + 1) -∗ Q ⟨⟩) -∗ Wp c (unsends l h) Q) := by
  unfold Xst unsends
  rw [show oweL c (chunks.drop 12) = 0 from rfl]
  iintro ⟨#HR, HO, HS, HV⟩ Hk
  ihave HS := (swap_at (l, h) (sndP c 12 u) (sndP c 12 (u + 1)) (sndP_left c hu)) $$ HS
  icases HS with ⟨Hx, HS⟩
  ihave Hx := (Entails.of_eq ((sndP_fly (F := F) c (pos_lt (l, h)) (by omega)).trans (by unfold fly tri atSend; rfl))) $$ Hx
  icases Hx with ⟨⟨Hc1, Ha1⟩, ⟨Hc0, Ha0⟩, ⟨Hc2, Ha2⟩⟩
  iapply (wp_seq c _ _ _)
  iapply (wp_unsend m K c l h 1 _) $$ [Hc1 Ha1 HO]
  · isplitr; · iexact HR
    isplitl [Hc1]; · iexact Hc1
    isplitl [Ha1]; · iexact Ha1
    iexact HO
  iintro ⟨Hz1, Hb1, HO⟩
  iapply (wp_seq c _ _ _)
  iapply (wp_unsend m K c l h 0 _) $$ [Hc0 Ha0 HO]
  · isplitr; · iexact HR
    isplitl [Hc0]; · iexact Hc0
    isplitl [Ha0]; · iexact Ha0
    iexact HO
  iintro ⟨Hz0, Hb0, HO⟩
  iapply (wp_unsend m K c l h 2 _) $$ [Hc2 Ha2 HO]
  · isplitr; · iexact HR
    isplitl [Hc2]; · iexact Hc2
    isplitl [Ha2]; · iexact Ha2
    iexact HO
  iintro ⟨Hz2, Hb2, HO⟩
  iapply Hk
  isplitr; · iexact HR
  isplitl [HO]; · iexact HO
  isplitr [HV]
  · iapply HS
    rw [sndP_gone c (pos_lt (l, h)) (by omega)]
    unfold gone
    isplitl [Hz1 Hz0 Hz2]
    · unfold tri
      isplitl [Hz1]; · iexact Hz1
      isplitl [Hz0] <;> iassumption
    have back : (tri fun j => owns (c : Thread nD τ) (sendM l h) (sh j) (rnd (part m l h c)) : sProp 𝕄) ⊢ bufAny c (l, h) := by
      refine (shares c l h _).2.trans ?_
      unfold owns bufAny
      iintro ⟨%f, -, H⟩; iexists f; iexact H
    iapply back
    unfold tri
    isplitl [Hb1]; · iexact Hb1
    isplitl [Hb0] <;> iassumption
  iexact HV

/-! ## The weights -/

/-- Layer `l`'s weights' slots, at any contents, and holding the layer's weights; and the staged weights. -/
def wAny (c : Dev nD) (l : Fin 3) : sProp 𝕄 :=
  iprop((∃ f, (wiM.access (rWi l)).loc (c : Thread nD τ) ↦[(wiM.access (rWi l)).set]{fullShare} f)
    ∗ ∃ f, (woM.access (rWo l)).loc (c : Thread nD τ) ↦[(woM.access (rWo l)).set]{fullShare} f)
def wHeld (c : Dev nD) (l : Fin 3) : sProp 𝕄 :=
  iprop((∃ f, ⌜(wiM.access (rWi l)).read (Elt F) f = winVal (wiv m l c)⌝
      ∗ (wiM.access (rWi l)).loc (c : Thread nD τ) ↦[(wiM.access (rWi l)).set]{fullShare} f)
    ∗ ∃ f, ⌜(woM.access (rWo l)).read (Elt F) f = woutVal (wov m l c)⌝
      ∗ (woM.access (rWo l)).loc (c : Thread nD τ) ↦[(woM.access (rWo l)).set]{fullShare} f)
def wStg (c : Dev nD) (l : Fin 3) : sProp 𝕄 :=
  iprop((∃ f, ⌜(winStg l).view.read (Elt F) f = wiv m l c⌝ ∗ (winStg l).view.loc (c : Thread nD τ) ↦{fullShare} f)
    ∗ ∃ f, ⌜(woutStg l).view.read (Elt F) f = wov m l c⌝ ∗ (woutStg l).view.loc (c : Thread nD τ) ↦{fullShare} f)
def wP (c : Dev nD) (w : ℕ) (l : Fin 3) : sProp 𝕄 := if l.val < w then wHeld m c l else wAny c l

/-- The first `w` layers' weights in place. -/
def Wst (c : Dev nD) (w : ℕ) : sProp 𝕄 := iprop(bigSep Finset.univ (wP m c w) ∗ bigSep Finset.univ (wStg m c))

theorem wP_put (c : Dev nD) {w : ℕ} {l : Fin 3} (h : l.val = w) (y : Fin 3) (hy : y ≠ l) : wP m c w y = wP m c (w + 1) y := by
  have : y.val ≠ w := fun e => hy (Fin.ext (e.trans h.symm))
  unfold wP; congr 1; exact propext (by omega)

/-- Layer `l`'s weights put in place. -/
theorem wp_putW (c : Dev nD) (l : Fin 3) {w : ℕ} (hw : l.val = w) (Q : PUnit → sProp 𝕄) :
    Wst m c w ⊢ iprop((Wst m c (w + 1) -∗ Q ⟨⟩) -∗ Wp c (putW l) Q) := by
  unfold Wst putW
  simp only [Prog.lift, Prog.bind_op, Prog.bind_ret]
  iintro ⟨HW, HG⟩ Hk
  ihave HW := (swap_at l (wP m c w) (wP m c (w + 1)) (wP_put m c hw)) $$ HW
  icases HW with ⟨Hx, HW⟩
  ihave Hx := (Entails.of_eq ((show wP m c w l = wAny c l from if_neg (by omega)).trans (by unfold wAny; rfl))) $$ Hx
  icases Hx with ⟨⟨%fi, Hi⟩, ⟨%fo, Ho⟩⟩
  ihave HG := (swap_at l (wStg m c) (wStg m c) (fun _ _ => rfl)) $$ HG
  unfold wStg
  icases HG with ⟨⟨⟨%gi, %hgi, Hgi⟩, ⟨%go, %hgo, Hgo⟩⟩, HG⟩
  iapply (wp_load 𝒱₀ (c : Thread nD τ) none Set.univ (m := winStg l) (Finset.subset_univ _)) $$ Hgi; iintro Hgi
  iapply (wp_load_rect 𝒱₀ (c : Thread nD τ) none Set.univ (m := wiM) (r := rWi l) (Finset.Subset.refl _)) $$ Hi; iintro Hi
  iapply (wp_store 𝒱₀ (c : Thread nD τ) none Set.univ (m := wiM) (r := rWi l) (Mk := Finset.univ) (S := (wiM.access (rWi l)).set) (Finset.Subset.refl _)) $$ Hi; iintro Hi
  iapply (wp_load 𝒱₀ (c : Thread nD τ) none Set.univ (m := woutStg l) (Finset.subset_univ _)) $$ Hgo; iintro Hgo
  iapply (wp_load_rect 𝒱₀ (c : Thread nD τ) none Set.univ (m := woM) (r := rWo l) (Finset.Subset.refl _)) $$ Ho; iintro Ho
  iapply (wp_store 𝒱₀ (c : Thread nD τ) none Set.univ (m := woM) (r := rWo l) (Mk := Finset.univ) (S := (woM.access (rWo l)).set) (Finset.Subset.refl _)) $$ Ho; iintro Ho
  iapply (wp_done c _ _)
  iapply Hk
  isplitl [HW Hi Ho]
  · iapply HW
    rw [show wP m c (w + 1) l = wHeld m c l from if_pos (by omega)]
    unfold wHeld
    isplitl [Hi]
    · iexists _; isplitr
      rotate_left
      · iexact Hi
      · ipureintro; rw [View.read_write_univ]; exact congrArg winVal ((readAt_all _ _ _).trans hgi)
    · iexists _; isplitr
      rotate_left
      · iexact Ho
      · ipureintro; rw [View.read_write_univ]; exact congrArg woutVal ((readAt_all _ _ _).trans hgo)
  iapply HG
  isplitl [Hgi]
  · iexists gi; isplitr; · ipureintro; exact hgi
    iexact Hgi
  · iexists go; isplitr; · ipureintro; exact hgo
    iexact Hgo

/-- A partial result from weights in place. -/
theorem wp_compute (c : Dev nD) (l : Fin 3) (x : FVec F S64x256 .bf16) {w : ℕ} (hw : l.val < w) (Q : FVec F S64x256 .f32 → sProp 𝕄) :
    Wst m c w ⊢ iprop((Wst m c w -∗ Q (mm x (winVal (wiv m l c)) (woutVal (wov m l c)))) -∗ Wp c (compute l x) Q) := by
  unfold Wst compute
  simp only [Prog.lift, Prog.bind_op, Prog.bind_ret, Prog.pure_eq_ret]
  iintro ⟨HW, HG⟩ Hk
  ihave HW := (swap_at l (wP m c w) (wP m c w) (fun _ _ => rfl)) $$ HW
  icases HW with ⟨Hx, HW⟩
  have e : wP m c w l = wHeld m c l := if_pos hw
  ihave Hx := (Entails.of_eq (e.trans (by unfold wHeld; rfl))) $$ Hx
  icases Hx with ⟨⟨%fi, %hi, Hi⟩, ⟨%fo, %ho, Ho⟩⟩
  iapply (wp_load_rect 𝒱₀ (c : Thread nD τ) none Set.univ (m := wiM) (r := rWi l) (Finset.Subset.refl _)) $$ Hi; iintro Hi
  iapply (wp_load_rect 𝒱₀ (c : Thread nD τ) none Set.univ (m := woM) (r := rWo l) (Finset.Subset.refl _)) $$ Ho; iintro Ho
  rw [hi, ho]
  iapply (wp_done c _ _)
  iapply Hk
  isplitl [HW Hi Ho]
  · iapply HW
    rw [e]; unfold wHeld
    isplitl [Hi]
    · iexists fi; isplitr; · ipureintro; exact hi
      iexact Hi
    · iexists fo; isplitr; · ipureintro; exact ho
      iexact Ho
  iexact HG

/-! ## The next layer's chunk, and the result's -/

/-- Chunk `h` of layer `l` received and summed, the next layer's partial result computed from it and sent. -/
theorem wp_step (K : Dev nD × CI → ℕ) (c : Dev nD) (l l' : Fin 3) (h : Fin 4) (p : FVec F S64x256 .f32) (hp : p = part m l h c) {s r w : ℕ}
    (hin : inp m l' h c = rnd (tot m l h c)) (hw : l'.val < w) (hr : pos (l, h) = r) (hs : pos (l', h) = s) (hrs : r < s)
    (Q : FVec F S64x256 .f32 → sProp 𝕄) :
    iprop(Xst m K c s r 0 ∗ Wst m c w)
      ⊢ iprop(((Xst m K c (s + 1) (r + 1) 0 ∗ Wst m c w) -∗ Q (part m l' h c)) -∗ Wp c (step c l l' h p) Q) := by
  unfold step
  simp only [Prog.pure_eq_ret]
  iintro ⟨HX, HW⟩ Hk
  iapply (wp_seq c _ _ _)
  iapply (wp_recvSum m K c l h p hp hr hrs (by have := pos_lt (l', h); omega) _) $$ HX; iintro HX
  iapply (wp_seq c _ _ _)
  iapply (wp_compute m c l' _ hw _) $$ HW; iintro HW
  rw [show mm (truncf .bf16 (tot m l h c) bitsLt_bf16_f32) (winVal (wiv m l' c)) (woutVal (wov m l' c)) = part m l' h c by
    unfold part partOf; rw [hin]; rfl]
  iapply (wp_seq c _ _ _)
  iapply (wp_send m K c l' h _ rfl hs _) $$ HX; iintro HX
  iapply (wp_done c _ _)
  iapply Hk
  isplitl [HX] <;> iassumption

/-- The staged result with its first `o` chunks in place. -/
def Ost (c : Dev nD) (o : ℕ) : sProp 𝕄 :=
  iprop(∃ f, ⌜∀ h : Fin 4, h.val < o → (oM.access (rO h)).read (Elt F) f = tot m 2 h c⌝ ∗ oM.view.loc (c : Thread nD τ) ↦{fullShare} f)

/-- Chunk `h` of the result put in place. -/
theorem wp_last (K : Dev nD × CI → ℕ) (c : Dev nD) (h : Fin 4) (p : FVec F S64x256 .f32) (hp : p = part m 2 h c) {r o : ℕ}
    (hr : pos (2, h) = r) (ho : h.val = o) (Q : PUnit → sProp 𝕄) :
    iprop(Xst m K c 12 r 0 ∗ Ost m c o) ⊢ iprop(((Xst m K c 12 (r + 1) 0 ∗ Ost m c (o + 1)) -∗ Q ⟨⟩) -∗ Wp c (last h p) Q) := by
  unfold last Ost
  simp only [Prog.lift, Prog.bind_op, Prog.bind_ret]
  iintro ⟨HX, ⟨%f, %hf, Ho⟩⟩ Hk
  iapply (wp_seq c _ _ _)
  iapply (wp_recvSum m K c 2 h p hp hr (hr ▸ pos_lt _) (by omega) _) $$ HX; iintro HX
  iapply (wp_load_rect 𝒱₀ (c : Thread nD τ) none Set.univ (m := oM) (r := rO h) (Finset.subset_univ _)) $$ Ho; iintro Ho
  iapply (wp_store 𝒱₀ (c : Thread nD τ) none Set.univ (m := oM) (r := rO h) (Mk := Finset.univ) (Finset.subset_univ _)) $$ Ho; iintro Ho
  iapply (wp_done c _ _)
  iapply Hk
  isplitl [HX]; · iexact HX
  iexists _; isplitr
  rotate_left
  · iexact Ho
  ipureintro
  intro h' hh'
  by_cases e : h' = h
  · subst e; exact View.read_write_univ _ _
  refine (View.read_slice_write_slice_of_disjoint _ _ _ _ _ ?_).trans (hf h' ?_)
  · rw [View.setOn_univ, View.set_slice, View.set_slice]
    refine (Finset.disjoint_map _).mpr (Rect.unit_disjoint 0 ?_)
    have : h'.val ≠ h.val := fun x => e (Fin.ext x)
    show 64 * h'.val + 64 ≤ 64 * h.val ∨ 64 * h.val + 64 ≤ 64 * h'.val
    omega
  · have : h'.val ≠ h.val := fun x => e (Fin.ext x)
    omega

end Cert.Mlp

end
-- ==== Proof.Buffers.lean ====
/-
The scratch buffers as their slots, and families over a device's semaphores as families over the chunks.
-/
module

public import proofs.«01_k».proof.Proof.State
public import Idealize.ShloMosaic.Lib.Ring

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer as its slots -/

/-- The elements of each slot. -/
def sendSet (x : Ch) : Finset S3x4x64x256.Idx := (sendM x.1 x.2).view.set
def commSet (x : Fin 3 × Ch) : Finset S3x4x3x64x256.Idx := (commM x.2.1 x.2.2 x.1).view.set
def wiSet (l : Fin 3) : Finset S3x256x512.Idx := (wiM.access (rWi l)).set
def woSet (l : Fin 3) : Finset S3x512x256.Idx := (woM.access (rWo l)).set
theorem sendSet_eq (x : Ch) : sendSet x = (rSb x.1 x.2).set := (set_send x.1 x.2).trans (View.set_slice_whole _ _)
theorem commSet_eq (x : Fin 3 × Ch) : commSet x = (rCm x.2.1 x.2.2 x.1).set := (set_comm x.2.1 x.2.2 x.1).trans (View.set_slice_whole _ _)
theorem wiSet_eq (l : Fin 3) : wiSet l = (rWi l).set := View.set_slice_whole _ _
theorem woSet_eq (l : Fin 3) : woSet l = (rWo l).set := View.set_slice_whole _ _

theorem cover_send : (Finset.univ : Finset Ch).biUnion sendSet = Finset.univ := by
  ext i
  simp only [Finset.mem_biUnion, Finset.mem_univ, true_and, iff_true]
  have h0 : (i 0).val < 3 := (i 0).isLt
  have h1 : (i 1).val < 4 := (i 1).isLt
  refine ⟨(⟨(i 0).val, h0⟩, ⟨(i 1).val, h1⟩), ?_⟩
  rw [sendSet_eq, Rect.mem_set_unit]
  intro a
  have := (i a).isLt
  match a with
  | 0 => exact ⟨Nat.le_refl _, Nat.lt_succ_self _⟩
  | 1 => exact ⟨Nat.le_refl _, Nat.lt_succ_self _⟩
  | 2 => exact ⟨Nat.zero_le _, by rw [show (![(i 0).val, (i 1).val, 0, 0] : Fin 4 → ℕ) 2 = 0 from rfl, Nat.zero_add]; exact this⟩
  | 3 => exact ⟨Nat.zero_le _, by rw [show (![(i 0).val, (i 1).val, 0, 0] : Fin 4 → ℕ) 3 = 0 from rfl, Nat.zero_add]; exact this⟩

theorem disj_send (x y : Ch) (h : x ≠ y) : Disjoint (sendSet x) (sendSet y) := by
  rw [sendSet_eq, sendSet_eq]
  by_cases e : x.1 = y.1
  · have e' : x.2.val ≠ y.2.val := fun e' => h (Prod.ext e (Fin.ext e'))
    exact Rect.unit_disjoint 1 (show x.2.val + 1 ≤ y.2.val ∨ y.2.val + 1 ≤ x.2.val by omega)
  · have e' : x.1.val ≠ y.1.val := fun e' => e (Fin.ext e')
    exact Rect.unit_disjoint 0 (show x.1.val + 1 ≤ y.1.val ∨ y.1.val + 1 ≤ x.1.val by omega)

theorem cover_comm : (Finset.univ : Finset (Fin 3 × Ch)).biUnion commSet = Finset.univ := by
  ext i
  simp only [Finset.mem_biUnion, Finset.mem_univ, true_and, iff_true]
  have h0 : (i 0).val < 3 := (i 0).isLt
  have h1 : (i 1).val < 4 := (i 1).isLt
  have h2 : (i 2).val < 3 := (i 2).isLt
  refine ⟨(⟨(i 2).val, h2⟩, ⟨(i 0).val, h0⟩, ⟨(i 1).val, h1⟩), ?_⟩
  rw [commSet_eq, Rect.mem_set_unit]
  intro a
  have := (i a).isLt
  match a with
  | 0 => exact ⟨Nat.le_refl _, Nat.lt_succ_self _⟩
  | 1 => exact ⟨Nat.le_refl _, Nat.lt_succ_self _⟩
  | 2 => exact ⟨Nat.le_refl _, Nat.lt_succ_self _⟩
  | 3 => exact ⟨Nat.zero_le _, by rw [show (![(i 0).val, (i 1).val, (i 2).val, 0, 0] : Fin 5 → ℕ) 3 = 0 from rfl, Nat.zero_add]; exact this⟩
  | 4 => exact ⟨Nat.zero_le _, by rw [show (![(i 0).val, (i 1).val, (i 2).val, 0, 0] : Fin 5 → ℕ) 4 = 0 from rfl, Nat.zero_add]; exact this⟩

theorem disj_comm (x y : Fin 3 × Ch) (h : x ≠ y) : Disjoint (commSet x) (commSet y) := by
  rw [commSet_eq, commSet_eq]
  by_cases e0 : x.2.1 = y.2.1
  · by_cases e1 : x.2.2 = y.2.2
    · have e' : x.1.val ≠ y.1.val := fun e' => h (Prod.ext (Fin.ext e') (Prod.ext e0 e1))
      exact Rect.unit_disjoint 2 (show x.1.val + 1 ≤ y.1.val ∨ y.1.val + 1 ≤ x.1.val by omega)
    · have e' : x.2.2.val ≠ y.2.2.val := fun e' => e1 (Fin.ext e')
      exact Rect.unit_disjoint 1 (show x.2.2.val + 1 ≤ y.2.2.val ∨ y.2.2.val + 1 ≤ x.2.2.val by omega)
  · have e' : x.2.1.val ≠ y.2.1.val := fun e' => e0 (Fin.ext e')
    exact Rect.unit_disjoint 0 (show x.2.1.val + 1 ≤ y.2.1.val ∨ y.2.1.val + 1 ≤ x.2.1.val by omega)

theorem cover_wi : (Finset.univ : Finset (Fin 3)).biUnion wiSet = Finset.univ := by
  ext i
  simp only [Finset.mem_biUnion, Finset.mem_univ, true_and, iff_true]
  have h0 : (i 0).val < 3 := (i 0).isLt
  refine ⟨⟨(i 0).val, h0⟩, ?_⟩
  rw [wiSet_eq, Rect.mem_set_unit]
  intro a
  have := (i a).isLt
  match a with
  | 0 => exact ⟨Nat.le_refl _, Nat.lt_succ_self _⟩
  | 1 => exact ⟨Nat.zero_le _, by rw [show (![(i 0).val, 0, 0] : Fin 3 → ℕ) 1 = 0 from rfl, Nat.zero_add]; exact this⟩
  | 2 => exact ⟨Nat.zero_le _, by rw [show (![(i 0).val, 0, 0] : Fin 3 → ℕ) 2 = 0 from rfl, Nat.zero_add]; exact this⟩
theorem disj_wi (x y : Fin 3) (h : x ≠ y) : Disjoint (wiSet x) (wiSet y) := by
  rw [wiSet_eq, wiSet_eq]
  have e' : x.val ≠ y.val := fun e' => h (Fin.ext e')
  exact Rect.unit_disjoint 0 (show x.val + 1 ≤ y.val ∨ y.val + 1 ≤ x.val by omega)

theorem cover_wo : (Finset.univ : Finset (Fin 3)).biUnion woSet = Finset.univ := by
  ext i
  simp only [Finset.mem_biUnion, Finset.mem_univ, true_and, iff_true]
  have h0 : (i 0).val < 3 := (i 0).isLt
  refine ⟨⟨(i 0).val, h0⟩, ?_⟩
  rw [woSet_eq, Rect.mem_set_unit]
  intro a
  have := (i a).isLt
  match a with
  | 0 => exact ⟨Nat.le_refl _, Nat.lt_succ_self _⟩
  | 1 => exact ⟨Nat.zero_le _, by rw [show (![(i 0).val, 0, 0] : Fin 3 → ℕ) 1 = 0 from rfl, Nat.zero_add]; exact this⟩
  | 2 => exact ⟨Nat.zero_le _, by rw [show (![(i 0).val, 0, 0] : Fin 3 → ℕ) 2 = 0 from rfl, Nat.zero_add]; exact this⟩
theorem disj_wo (x y : Fin 3) (h : x ≠ y) : Disjoint (woSet x) (woSet y) := by
  rw [woSet_eq, woSet_eq]
  have e' : x.val ≠ y.val := fun e' => h (Fin.ext e')
  exact Rect.unit_disjoint 0 (show x.val + 1 ≤ y.val ∨ y.val + 1 ≤ x.val by omega)

/-- A buffer whole at some contents, cut along a family of element sets, and joined again. -/
theorem cut {ℓ : Loc nD τ sig} {B : Type} [Fintype B] [DecidableEq B] (I : B → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  have some (f : Buf (Elt F) ℓ) : (bigSep Finset.univ fun b => (ℓ ↦[I b]{fullShare} f : sProp 𝕄))
      ⊢ bigSep Finset.univ fun b => iprop(∃ f : Buf (Elt F) ℓ, ℓ ↦[I b]{fullShare} f) :=
    bigSep_mono fun b _ => show (ℓ ↦[I b]{fullShare} f : sProp 𝕄) ⊢ iprop(∃ f : Buf (Elt F) ℓ, ℓ ↦[I b]{fullShare} f) from by
      iintro H; iexists f; iexact H
  iintro ⟨%f, H⟩
  ihave H := (Entails.of_eq (Ring.pointsTo_blocks I hd hc f)) $$ H
  iapply (some f)
  iexact H

theorem join {ℓ : Loc nD τ sig} {B : Type} [Fintype B] [DecidableEq B] (I : B → Finset (Idx ℓ)) (hd : ∀ b b', b ≠ b' → Disjoint (I b) (I b'))
    (hc : Finset.univ.biUnion I = Finset.univ) (f₀ : Buf (Elt F) ℓ) :
    (bigSep Finset.univ fun b => iprop(∃ f : Buf (Elt F) ℓ, ℓ ↦[I b]{fullShare} f)) ⊢ (iprop(∃ f : Buf (Elt F) ℓ, ℓ ↦{fullShare} f) : sProp 𝕄) :=
  Ring.pointsTo_blocks_join_exists I hd hc f₀

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- The same by slots. -/
def slots (c : Dev nD) : sProp 𝕄 :=
  iprop((bigSep Finset.univ fun x : Ch => bufAny c x) ∗ (bigSep Finset.univ fun jx : Fin 3 × Ch => slotAny c jx.2.1 jx.2.2 jx.1)
    ∗ bigSep Finset.univ fun l : Fin 3 => wAny c l)

theorem scratch_slots (c : Dev nD) : scratch (F := F) c ⊢ slots c := by
  unfold scratch slots
  iintro ⟨H0, H1, H2, H3⟩
  isplitl [H0]; · iapply (cut (F := F) (ℓ := (c : Thread nD τ).loc cc0_scratch0) sendSet disj_send cover_send); iexact H0
  isplitl [H1]; · iapply (cut (F := F) (ℓ := (c : Thread nD τ).loc cc0_scratch1) commSet disj_comm cover_comm); iexact H1
  unfold wAny
  rw [bigSep_sep']
  isplitl [H2]; · iapply (cut (F := F) (ℓ := (c : Thread nD τ).loc cc0_scratch2) wiSet disj_wi cover_wi); iexact H2
  iapply (cut (F := F) (ℓ := (c : Thread nD τ).loc cc0_scratch3) woSet disj_wo cover_wo); iexact H3

theorem slots_scratch (m : (ℓ : Loc nD τ sig) → Buf (Elt F) ℓ) (c : Dev nD) : slots (F := F) c ⊢ scratch c := by
  unfold scratch slots wAny
  rw [bigSep_sep']
  iintro ⟨H0, H1, H2, H3⟩
  isplitl [H0]; · iapply (join (F := F) (ℓ := (c : Thread nD τ).loc cc0_scratch0) sendSet disj_send cover_send (m _)); iexact H0
  isplitl [H1]; · iapply (join (F := F) (ℓ := (c : Thread nD τ).loc cc0_scratch1) commSet disj_comm cover_comm (m _)); iexact H1
  isplitl [H2]; · iapply (join (F := F) (ℓ := (c : Thread nD τ).loc cc0_scratch2) wiSet disj_wi cover_wi (m _)); iexact H2
  iapply (join (F := F) (ℓ := (c : Thread nD τ).loc cc0_scratch3) woSet disj_wo cover_wo (m _)); iexact H3

/-! ## Families -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_tri (Φ : Fin 3 → sProp 𝕄) : bigSep Finset.univ Φ = tri Φ := bigSep_univ_eq_bigSepL [1, 0, 2] (by decide) (by decide) Φ
theorem bigSep_two (Φ : Bool → sProp 𝕄) : bigSep Finset.univ Φ = iprop(Φ false ∗ Φ true) :=
  bigSep_univ_eq_bigSepL [false, true] (by decide) (by decide) Φ

/-- Over the transfers: over the chunks, three each. -/
theorem bigSep_key (Φ : Key → sProp 𝕄) : bigSep Finset.univ Φ = bigSep Finset.univ fun x : Ch => tri fun j => Φ (x.1, x.2, j) := by
  rw [bigSep_univ_prod, bigSep_univ_prod]
  refine bigSep_congr fun l _ => ?_
  rw [bigSep_univ_prod]
  exact bigSep_congr fun h _ => bigSep_tri _

/-- Over both sides of the transfers. -/
theorem bigSep_sides (Φ : Bool × Key → sProp 𝕄) : bigSep Finset.univ Φ
    = iprop((bigSep Finset.univ fun x : Ch => tri fun j => Φ (false, x.1, x.2, j)) ∗ bigSep Finset.univ fun x : Ch => tri fun j => Φ (true, x.1, x.2, j)) := by
  rw [bigSep_univ_prod, bigSep_two, bigSep_key, bigSep_key]

/-- Over a device's semaphores: the barrier's, and both sides of the transfers. -/
theorem bigSep_sems (Φ : CI → sProp 𝕄) : bigSep Finset.univ Φ = iprop(Φ none ∗ bigSep Finset.univ fun x : Bool × Key => Φ (some x)) := by
  have e : (Finset.univ : Finset CI) = insert none (Finset.univ.map Function.Embedding.some) := by
    ext i; cases i <;> simp
  rw [e, bigSep_insert (by simp), bigSep_map]; rfl

end Cert.Mlp

end
-- ==== Proof.Body.lean ====
/-
The kernel on one device, run from what the launch hands it to what it gives back.
-/
module

public import proofs.«01_k».proof.Proof.Buffers
public import proofs.«01_k».proof.Proof.Gen.KernelIdeal.Points

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

theorem wp_devId (c : Dev nD) (Q : Dev nD → sProp 𝕄) : Q c ⊢ Wp c (Prog.lift .deviceId) Q := by
  unfold Wp Prog.lift
  simp only [wp_deviceId]
  iintro H
  rw [wp_ret]; imodintro; iexact H

/-- Signal `j`, with this device's receive slots `j`. -/
theorem wp_signalBar (K : Dev nD × CI → ℕ) (c : Dev nD) (j : Fin 3) (O : CT) (Q : PUnit → sProp 𝕄) :
    iprop(records m K ∗ Owes c (oweB c j + O) ∗ dutyTok ER (barCell (peer j c)) 0 j ∗ bigSep Finset.univ fun x : Ch => slotAny c x.1 x.2 j)
      ⊢ iprop((Owes c O -∗ Q ⟨⟩) -∗ Wp c (semSignalWord (peer j c) barS 1#32) Q) := by
  unfold Owes
  simp only [semSignalWord, Prog.lift]
  iintro ⟨#HR, ⟨%W, HO⟩, Ht, Hs⟩ Hk
  iapply (Rounds.wp_signal 𝒱₀ ER (Rd m) (c : Thread nD τ) none (dst := (peer j c : Thread nD τ)) (κ := K (peer j c, none))
      (d := j) (by rw [duties_bar]; exact Finset.mem_univ _) ((amount_bar m (peer j c) j).trans (by decide)) () O (add_comm _ _))
    $$ [HO Ht Hs]
  · isplitr; · iapply (inv_at m K (peer j c, none)); iexact HR
    isplitl [HO]; · iexact HO
    isplitl [Ht]; · iexact Ht
    isplitl [Hs]
    · rw [payload_bar]; unfold barPay; rw [peer_rev]; iexact Hs
    · iapply (reached_at m K (peer j c, none)); iexact HR
  iintro HO
  rw [wp_ret]; imodintro
  iapply Hk
  iexists W; iexact HO

/-- The wait for the other three's signals: their slots for this device's transfers. -/
theorem wp_waitBar (K : Dev nD × CI → ℕ) (c : Dev nD) (Q : PUnit → sProp 𝕄) :
    iprop(records m K ∗ cred (tallyAt (barCell c) () 3) ∗ atPos ER (barCell c) 0 ∅ 0 ∗ Owes c (oweL c chunks))
      ⊢ iprop(((semVal (barCell c) 0 ∗ (bigSep Finset.univ fun x : Ch => tri (slotTo c x)) ∗ Owes c (oweL c chunks)) -∗ Q ⟨⟩)
          -∗ Wp c (semWaitWord barS 3#32) Q) := by
  unfold Owes
  simp only [semWaitWord, Prog.lift]
  iintro ⟨#HR, Hc, Hat, ⟨%W, HO⟩⟩ Hk
  iapply (Rounds.wp_wait_rest_token 𝒱₀ ER (Rd m) (c : Thread nD τ) none (κ := K (c, none))
      (wpE_semWait_eq 𝒱₀ (c : Thread nD τ) none Set.univ) (Set.mem_univ _) () (O := oweL c chunks) (W := W) (R := 0) (m := 0) (T := ∅)
      (by rw [Nat.zero_add]; exact Eq.symm ((expect_bar m c).trans (by decide)))) $$ [Hc HO Hat]
  · isplitr; · iapply (inv_at m K (c, none)); iexact HR
    isplitl [Hc]; · iexact Hc
    isplitl [HO]; · iexact HO
    isplitr
    · iapply (mayWait_cell c none chunks (fun x _ => show 1 < 2 + 4 * x.1.val + x.2.val by omega))
      iapply (lev_at m K); iexact HR
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  rw [wp_ret]; imodintro
  iapply Hk
  isplitl [Hz]; · iexact Hz
  isplitl [Hp]
  · unfold tri slotTo barPay
    rw [bigSep_sep', bigSep_sep']
    icases Hp with ⟨H0, H1, H2⟩
    isplitl [H1]; · iexact H1
    isplitl [H2]; · iexact H2
    iexact H0
  iexists _; iexact HO

/-! ## What the body starts from -/

/-- The cells' invariants under the names `K`, and that each cell has begun its round. -/
def recs (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0))
instance recs_persistent (K : Dev nD × CI → ℕ) : BI.Persistent (recs m K) := by unfold recs; infer_instance

/-- A device's positions at its cells, and the rights to the duties it performs. -/
def linear (c : Dev nD) : sProp 𝕄 :=
  iprop((bigSep Finset.univ fun i : CI => atPos ER (kcell (c, i)) 0 ∅ 0) ∗ (bigSep Finset.univ fun j : Fin 3 => dutyTok ER (barCell (peer j c)) 0 j)
    ∗ bigSep Finset.univ fun x : Ch => tri (tokOf1 c x))

/-- A device's launch credits: the barrier's three units, each arrival's amount. -/
def creds (c : Dev nD) : sProp 𝕄 :=
  iprop(cred (tallyAt (barCell c) () 3) ∗ bigSep Finset.univ fun x : Ch => tri fun s => cred (tallyAt (recvCell c x.1 x.2 s) () N))

def start (c : Dev nD) : sProp 𝕄 := iprop((∃ K, recs m K ∗ linear c) ∗ creds c ∗ levAts L lv)

/-- Every semaphore the kernel holds back at zero. -/
def zeros (c : Dev nD) : sProp 𝕄 := bigSep Finset.univ fun i : CI => semVal (kcell (c, i)) 0

/-- The staged input; the staged result at any contents. -/
def xHeld (c : Dev nD) : sProp 𝕄 := iprop(∃ f, ⌜xM.view.read (Elt F) f = xv m c⌝ ∗ xM.view.loc (c : Thread nD τ) ↦{fullShare} f)

/-- Split by the first of three. -/
theorem bigSep_three (Φ : Fin 3 × Ch → sProp 𝕄) : bigSep Finset.univ Φ
    = iprop((bigSep Finset.univ fun x => Φ (0, x)) ∗ (bigSep Finset.univ fun x => Φ (1, x)) ∗ bigSep Finset.univ fun x => Φ (2, x)) := by
  rw [bigSep_univ_prod, bigSep_fin3]

theorem slots_eq (c : Dev nD) : (slots c : sProp 𝕄)
    = iprop((bigSep Finset.univ fun x : Ch => bufAny c x)
      ∗ ((bigSep Finset.univ fun x : Ch => slotAny c x.1 x.2 0) ∗ (bigSep Finset.univ fun x : Ch => slotAny c x.1 x.2 1)
        ∗ bigSep Finset.univ fun x : Ch => slotAny c x.1 x.2 2)
      ∗ bigSep Finset.univ fun l : Fin 3 => wAny c l) := by
  unfold slots; rw [bigSep_three]

theorem Xst_intro (K : Dev nD × CI → ℕ) (c : Dev nD) :
    iprop(records m K ∗ Owes c (oweL c chunks) ∗ (bigSep Finset.univ fun x : Ch => tri (tokOf1 c x)) ∗ (bigSep Finset.univ fun x : Ch => tri (slotTo c x))
        ∗ (bigSep Finset.univ fun x : Ch => bufAny c x)
        ∗ (bigSep Finset.univ fun x : Ch => tri fun j => atPos ER (kcell (c, some (false, x.1, x.2, j))) 0 ∅ 0)
        ∗ (bigSep Finset.univ fun x : Ch => tri fun j => atPos ER (kcell (c, some (true, x.1, x.2, j))) 0 ∅ 0)
        ∗ bigSep Finset.univ fun x : Ch => tri fun s => cred (tallyAt (recvCell c x.1 x.2 s) () N))
      ⊢ Xst m K c 0 0 0 := by
  unfold Xst
  rw [show bigSep Finset.univ (sndP (F := F) c 0 0) = bigSep Finset.univ (ready c) from bigSep_congr fun x _ => if_neg (Nat.not_lt_zero _),
    show bigSep Finset.univ (rcvP (F := F) c 0) = bigSep Finset.univ (due c) from bigSep_congr fun x _ => if_neg (Nat.not_lt_zero _)]
  unfold ready due tri atSend
  simp only [bigSep_sep']
  iintro ⟨HR, HO, Ht, Hd, Hb, Hs, ⟨Hr1, Hr0, Hr2⟩, ⟨Hc1, Hc0, Hc2⟩⟩
  isplitl [HR]; · iexact HR
  isplitl [HO]; · iexact HO
  isplitr [Hr1 Hr0 Hr2 Hc1 Hc0 Hc2]
  · isplitl [Ht]; · iexact Ht
    isplitl [Hd]; · iexact Hd
    isplitl [Hb]; · iexact Hb
    iexact Hs
  isplitl [Hc1 Hr1]; · isplitl [Hc1] <;> iassumption
  isplitl [Hc0 Hr0]; · isplitl [Hc0] <;> iassumption
  isplitl [Hc2] <;> iassumption

theorem Xst_elim (K : Dev nD × CI → ℕ) (c : Dev nD) :
    iprop(semVal (barCell c) 0 ∗ Xst m K c 12 12 12)
      ⊢ iprop(Owes c 0 ∗ zeros c ∗ (bigSep Finset.univ fun x : Ch => bufAny c x) ∗ bigSep Finset.univ fun jx : Fin 3 × Ch => slotAny c jx.2.1 jx.2.2 jx.1) := by
  unfold Xst zeros
  rw [show bigSep Finset.univ (sndP (F := F) c 12 12) = bigSep Finset.univ (gone c) from bigSep_congr fun x _ => sndP_gone c (pos_lt x) (pos_lt x),
    show bigSep Finset.univ (rcvP (F := F) c 12) = bigSep Finset.univ (came c) from bigSep_congr fun x _ => rcvP_came c (pos_lt x),
    show oweL c (chunks.drop 12) = 0 from rfl, bigSep_sems, bigSep_sides, bigSep_three]
  unfold gone came tri
  simp only [bigSep_sep']
  iintro ⟨Hz, -, HO, ⟨⟨Hs1, Hs0, Hs2⟩, Hb⟩, ⟨Hr1, Hl1⟩, ⟨Hr0, Hl0⟩, ⟨Hr2, Hl2⟩⟩
  isplitl [HO]; · iexact HO
  isplitl [Hz Hs1 Hs0 Hs2 Hr1 Hr0 Hr2]
  · isplitl [Hz]; · iexact Hz
    isplitl [Hs1 Hs0 Hs2]
    · isplitl [Hs1]; · iexact Hs1
      isplitl [Hs0] <;> iassumption
    isplitl [Hr1]; · iexact Hr1
    isplitl [Hr0] <;> iassumption
  isplitl [Hb]; · iexact Hb
  isplitl [Hl0]; · iexact Hl0
  isplitl [Hl1] <;> iassumption

theorem Wst_intro (c : Dev nD) : iprop((bigSep Finset.univ fun l : Fin 3 => wAny c l) ∗ bigSep Finset.univ (wStg m c)) ⊢ Wst m c 0 := by
  unfold Wst
  rw [show bigSep Finset.univ (wP m c 0) = bigSep Finset.univ (fun l : Fin 3 => wAny c l) from bigSep_congr fun x _ => if_neg (Nat.not_lt_zero _)]

theorem Wst_elim (c : Dev nD) : Wst m c 3 ⊢ iprop((bigSep Finset.univ fun l : Fin 3 => wAny c l) ∗ bigSep Finset.univ (wStg m c)) := by
  unfold Wst
  have e (l : Fin 3) : wP m c 3 l ⊢ wAny c l := by
    rw [show wP m c 3 l = wHeld m c l from if_pos l.isLt]
    unfold wHeld wAny
    iintro ⟨⟨%f, -, Hf⟩, ⟨%g, -, Hg⟩⟩
    isplitl [Hf]
    · iexists f; iexact Hf
    · iexists g; iexact Hg
  iintro ⟨H, HG⟩
  isplitl [H]
  · iapply (show bigSep Finset.univ (wP m c 3) ⊢ bigSep Finset.univ (fun l : Fin 3 => wAny (F := F) c l) from bigSep_mono fun l _ => e l); iexact H
  iexact HG

/-- Chunk `h` of the input through the first layer. -/
theorem part0 (c : Dev nD) (h : Fin 4) : mm (chunk h (xv m c)) (winVal (wiv m 0 c)) (woutVal (wov m 0 c)) = part m 0 h c := rfl

/-- Two things held are held together. -/
theorem sep_intro (P R : sProp 𝕄) : iprop(P ∗ R) ⊢ iprop(P ∗ R) := Entails.refl _

set_option maxHeartbeats 1600000 in
/-- The kernel on device `c`, one piece at a time. -/
theorem wp_body (K : Dev nD × CI → ℕ) (c : Dev nD) (Q : PUnit → sProp 𝕄) :
    iprop(recs m K ∗ linear c ∗ creds c ∗ levAts L lv ∗ scratch c ∗ Owes c (O₀ c) ∗ xHeld m c ∗ bigSep Finset.univ (wStg m c) ∗ Ost m c 0)
      ⊢ iprop(((Owes c 0 ∗ zeros c ∗ scratch c ∗ xHeld m c ∗ bigSep Finset.univ (wStg m c) ∗ Ost m c 4) -∗ Q ⟨⟩) -∗ Wp c body Q) := by
  unfold recs linear creds O₀ xHeld
  rw [bigSep_sems, bigSep_sides, bigSep_fin3 fun j => dutyTok ER (barCell (peer j c)) 0 j]
  iintro ⟨⟨#HI, #Hr⟩, ⟨⟨HaB, HaS, HaV⟩, ⟨Ht0, Ht1, Ht2⟩, Htk⟩, ⟨HcB, HcV⟩, #Hlev, Hscr, HO, ⟨%fx, %hx, Hx⟩, HG, HY⟩ Hk
  ihave #HR := (show iprop((bigSep Finset.univ fun ck : Dev nD × CI => cellInv ER (Rd m) (K ck) (kcell ck))
      ∗ (bigSep Finset.univ fun ck : Dev nD × CI => reached ER (kcell ck) 0) ∗ levAts L lv) ⊢ records m K from by unfold records; iintro H; iexact H) $$ []
  · isplitr; · iexact HI
    isplitr; · iexact Hr
    iexact Hlev
  ihave Hsl := ((scratch_slots (F := F) c).trans (Entails.of_eq (slots_eq c))) $$ Hscr
  icases Hsl with ⟨Hbuf, ⟨Hs0, Hs1, Hs2⟩, HwA⟩
  ihave HW := (Wst_intro m c) $$ [HwA HG]
  · isplitl [HwA] <;> iassumption
  unfold body
  iapply (wp_seq c _ _ _); iapply (wp_devId c _)
  simp only [peerDev_eq]
  iapply (wp_seq c _ _ _); iapply (wp_signalBar m K c 0 _ _) $$ [HO Ht0 Hs0]
  · isplitr; · iexact HR
    isplitl [HO]; · iexact HO
    isplitl [Ht0] <;> iassumption
  iintro HO
  iapply (wp_seq c _ _ _); iapply (wp_signalBar m K c 1 _ _) $$ [HO Ht1 Hs1]
  · isplitr; · iexact HR
    isplitl [HO]; · iexact HO
    isplitl [Ht1] <;> iassumption
  iintro HO
  iapply (wp_seq c _ _ _); iapply (wp_signalBar m K c 2 _ _) $$ [HO Ht2 Hs2]
  · isplitr; · iexact HR
    isplitl [HO]; · iexact HO
    isplitl [Ht2] <;> iassumption
  iintro HO
  iapply (wp_seq c _ _ _); iapply (wp_putW m c 0 (w := 0) rfl _) $$ HW; iintro HW
  simp only [Prog.lift, Prog.bind_op, Prog.bind_ret]
  iapply (wp_load 𝒱₀ (c : Thread nD τ) none Set.univ (m := xM) (Finset.subset_univ _)) $$ Hx; iintro Hx
  rw [readAt_all, hx]
  iapply (wp_seq c _ _ _); iapply (wp_compute m c 0 _ (w := 1) (by decide) _) $$ HW; iintro HW
  iapply (wp_seq c _ _ _); iapply (wp_waitBar m K c _) $$ [HcB HaB HO]
  · isplitr; · iexact HR
    isplitl [HcB]; · iexact HcB
    isplitl [HaB] <;> iassumption
  iintro ⟨Hz, Hdst, HO⟩
  ihave HX := (Xst_intro m K c) $$ [HO Htk Hdst Hbuf HaS HaV HcV]
  · isplitr; · iexact HR
    isplitl [HO]; · iexact HO
    isplitl [Htk]; · iexact Htk
    isplitl [Hdst]; · iexact Hdst
    isplitl [Hbuf]; · iexact Hbuf
    isplitl [HaS]; · iexact HaS
    isplitl [HaV] <;> iassumption
  simp only [part0]
  iapply (wp_seq c _ _ _); iapply (wp_send m K c 0 0 _ rfl (s := 0) (r := 0) rfl _) $$ HX; iintro HX
  iapply (wp_seq c _ _ _); iapply (wp_compute m c 0 _ (w := 1) (by decide) _) $$ HW; iintro HW
  simp only [part0]
  iapply (wp_seq c _ _ _); iapply (wp_send m K c 0 1 _ rfl (s := 1) (r := 0) rfl _) $$ HX; iintro HX
  iapply (wp_seq c _ _ _); iapply (wp_compute m c 0 _ (w := 1) (by decide) _) $$ HW; iintro HW
  simp only [part0]
  iapply (wp_seq c _ _ _); iapply (wp_send m K c 0 2 _ rfl (s := 2) (r := 0) rfl _) $$ HX; iintro HX
  iapply (wp_seq c _ _ _); iapply (wp_compute m c 0 _ (w := 1) (by decide) _) $$ HW; iintro HW
  simp only [part0]
  iapply (wp_seq c _ _ _); iapply (wp_send m K c 0 3 _ rfl (s := 3) (r := 0) rfl _) $$ HX; iintro HX
  iapply (wp_seq c _ _ _); iapply (wp_putW m c 1 (w := 1) rfl _) $$ HW; iintro HW
  ihave HXW := (sep_intro (Xst m K c 4 0 0) (Wst m c 2)) $$ [HX HW]
  · isplitl [HX] <;> iassumption
  iapply (wp_seq c _ _ _); iapply (wp_step m K c 0 1 0 _ rfl rfl (w := 2) (by decide) (r := 0) rfl (s := 4) rfl (by decide) _) $$ HXW; iintro HXW
  iapply (wp_seq c _ _ _); iapply (wp_step m K c 0 1 1 _ rfl rfl (w := 2) (by decide) (r := 1) rfl (s := 5) rfl (by decide) _) $$ HXW; iintro HXW
  iapply (wp_seq c _ _ _); iapply (wp_step m K c 0 1 2 _ rfl rfl (w := 2) (by decide) (r := 2) rfl (s := 6) rfl (by decide) _) $$ HXW; iintro HXW
  iapply (wp_seq c _ _ _); iapply (wp_step m K c 0 1 3 _ rfl rfl (w := 2) (by decide) (r := 3) rfl (s := 7) rfl (by decide) _) $$ HXW; iintro ⟨HX, HW⟩
  iapply (wp_seq c _ _ _); iapply (wp_putW m c 2 (w := 2) rfl _) $$ HW; iintro HW
  ihave HXW := (sep_intro (Xst m K c 8 4 0) (Wst m c 3)) $$ [HX HW]
  · isplitl [HX] <;> iassumption
  iapply (wp_seq c _ _ _); iapply (wp_step m K c 1 2 0 _ rfl rfl (w := 3) (by decide) (r := 4) rfl (s := 8) rfl (by decide) _) $$ HXW; iintro HXW
  iapply (wp_seq c _ _ _); iapply (wp_step m K c 1 2 1 _ rfl rfl (w := 3) (by decide) (r := 5) rfl (s := 9) rfl (by decide) _) $$ HXW; iintro HXW
  iapply (wp_seq c _ _ _); iapply (wp_step m K c 1 2 2 _ rfl rfl (w := 3) (by decide) (r := 6) rfl (s := 10) rfl (by decide) _) $$ HXW; iintro HXW
  iapply (wp_seq c _ _ _); iapply (wp_step m K c 1 2 3 _ rfl rfl (w := 3) (by decide) (r := 7) rfl (s := 11) rfl (by decide) _) $$ HXW; iintro ⟨HX, HW⟩
  ihave HXY := (sep_intro (Xst m K c 12 8 0) (Ost m c 0)) $$ [HX HY]
  · isplitl [HX] <;> iassumption
  iapply (wp_seq c _ _ _); iapply (wp_last m K c 0 _ rfl (r := 8) rfl (o := 0) rfl _) $$ HXY; iintro HXY
  iapply (wp_seq c _ _ _); iapply (wp_last m K c 1 _ rfl (r := 9) rfl (o := 1) rfl _) $$ HXY; iintro HXY
  iapply (wp_seq c _ _ _); iapply (wp_last m K c 2 _ rfl (r := 10) rfl (o := 2) rfl _) $$ HXY; iintro HXY
  iapply (wp_seq c _ _ _); iapply (wp_last m K c 3 _ rfl (r := 11) rfl (o := 3) rfl _) $$ HXY; iintro ⟨HX, HY⟩
  iapply (wp_seq c _ _ _); iapply (wp_unsends m K c 0 0 (u := 0) rfl _) $$ HX; iintro HX
  iapply (wp_seq c _ _ _); iapply (wp_unsends m K c 0 1 (u := 1) rfl _) $$ HX; iintro HX
  iapply (wp_seq c _ _ _); iapply (wp_unsends m K c 0 2 (u := 2) rfl _) $$ HX; iintro HX
  iapply (wp_seq c _ _ _); iapply (wp_unsends m K c 0 3 (u := 3) rfl _) $$ HX; iintro HX
  iapply (wp_seq c _ _ _); iapply (wp_unsends m K c 1 0 (u := 4) rfl _) $$ HX; iintro HX
  iapply (wp_seq c _ _ _); iapply (wp_unsends m K c 1 1 (u := 5) rfl _) $$ HX; iintro HX
  iapply (wp_seq c _ _ _); iapply (wp_unsends m K c 1 2 (u := 6) rfl _) $$ HX; iintro HX
  iapply (wp_seq c _ _ _); iapply (wp_unsends m K c 1 3 (u := 7) rfl _) $$ HX; iintro HX
  iapply (wp_seq c _ _ _); iapply (wp_unsends m K c 2 0 (u := 8) rfl _) $$ HX; iintro HX
  iapply (wp_seq c _ _ _); iapply (wp_unsends m K c 2 1 (u := 9) rfl _) $$ HX; iintro HX
  iapply (wp_seq c _ _ _); iapply (wp_unsends m K c 2 2 (u := 10) rfl _) $$ HX; iintro HX
  iapply (wp_unsends m K c 2 3 (u := 11) rfl _) $$ HX; iintro HX
  ihave HE := (Xst_elim m K c) $$ [Hz HX]
  · isplitl [Hz] <;> iassumption
  icases HE with ⟨HO, Hz, Hbuf, Hsl⟩
  ihave HW := (Wst_elim m c) $$ HW
  icases HW with ⟨HwA, HG⟩
  iapply Hk
  isplitl [HO]; · iexact HO
  isplitl [Hz]; · iexact Hz
  isplitl [Hbuf Hsl HwA]
  · iapply (slots_scratch m c); unfold slots
    isplitl [Hbuf]; · iexact Hbuf
    isplitl [Hsl] <;> iassumption
  isplitl [Hx]
  · iexists fx; isplitr; · ipureintro; exact hx
    iexact Hx
  isplitl [HG] <;> iassumption

end Cert.Mlp

end
-- ==== Proof.Obligation.lean ====
/-
The result a device leaves, and the kernel's body against what the launch asks of it.
-/
module

public import proofs.«01_k».proof.Proof.Body
public import proofs.«01_k».proof.Proof.Gen.KernelIdeal.Points

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The result -/

/-- The result on device `c`: row `64 h + r` is row `r` of chunk `h`'s sum at the last layer. -/
def outAt (c : Dev nD) : Vec F S256x256 .f32 := fun i =>
  tot m 2 ⟨(i 0).val / 64, by have : (i 0).val < 256 := (i 0).isLt; omega⟩ c
    (Shape.pair ⟨(i 0).val % 64, Nat.mod_lt _ (by decide)⟩ (i 1))

/-- Four chunks in place are the result. -/
theorem out_eq (c : Dev nD) (f : Vec F S256x256 .f32) (hf : ∀ h : Fin 4, h.val < 4 → (oM.access (rO h)).read (Elt F) f = tot m 2 h c) :
    f = outAt m c := by
  funext i
  have h0 : (i 0).val < 256 := (i 0).isLt
  have hh : (i 0).val / 64 < 4 := by omega
  have key := congrFun (hf ⟨(i 0).val / 64, hh⟩ hh) (Shape.pair ⟨(i 0).val % 64, Nat.mod_lt _ (by decide)⟩ (i 1))
  refine Eq.trans ?_ key
  show f i = f ((rO ⟨(i 0).val / 64, hh⟩).emb (Shape.pair ⟨(i 0).val % 64, Nat.mod_lt _ (by decide)⟩ (i 1)))
  congr 1
  refine Eq.symm (Rect.emb_eq_of_coords _ _ _ fun a => ?_)
  match a with
  | 0 => show (i 0).val = 64 * ((i 0).val / 64) + 1 * ((i 0).val % 64); omega
  | 1 => show (i 1).val = 0 + 1 * (i 1).val; omega

/-! ## The proof data of the launch -/

def Φ₀ (c : Dev nD) : sProp 𝕄 := iprop(start m c ∗ scratch c)
/-- After the body: the scratch buffers at some contents, every semaphore of the kernel back at zero. -/
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wiv m 0 c
    | ⟨2, _⟩ => wov m 0 c
    | ⟨3, _⟩ => wiv m 1 c
    | ⟨4, _⟩ => wov m 1 c
    | ⟨5, _⟩ => wiv m 2 c
    | ⟨6, _⟩ => wov m 2 c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost (c : Dev nD) : sProp 𝕄 :=
  iprop(Φ₁ c ∗ (dats m ρ 0 c).owesAt () t0_0.succ ∗ stg c cc0_stg0_0 (xv m c) ∗ stg c cc0_stg1_0 (wiv m 0 c) ∗ stg c cc0_stg2_0 (wov m 0 c)
    ∗ stg c cc0_stg3_0 (wiv m 1 c) ∗ stg c cc0_stg4_0 (wov m 1 c) ∗ stg c cc0_stg5_0 (wiv m 2 c) ∗ stg c cc0_stg6_0 (wov m 2 c)
    ∗ stg c cc0_stg7_0 (outAt m c))

/-- A window's block starts at its array's first element. -/
theorem read_block (w : Fin 8) (a : Fin (spec0 w).shape.rank) : (win0 w).kind.off ((win0 w).index t0_0 a) ((win0 w).size a) = 0 := by
  revert w; decide

/-- What the launch leaves in an input's staging buffer: the input. -/
theorem before_eq (c : Dev nD) (w : Fin cfg0.W) (hw : (cfg0.win w).fetch t0_0 = true) (d) :
    (dats m ρ 0 c).before w t0_0 d = (dats m ρ 0 c).fetched w t0_0 d := by
  unfold Dat.before; rw [if_pos hw]
theorem before_0 (c : Dev nD) (d) : (dats m ρ 0 c).before ((0 : Fin 8)) t0_0 d = xv m c := by
  rw [before_eq m ρ c 0 (fetch0_0 t0_0) d]
  exact Memref.read_access_unit_zero (Elt F) main_arg0 (funext (read_block 0)) (fun a => by fin_cases a <;> decide) (m ((c : Thread nD τ).loc main_arg0))
theorem before_1 (c : Dev nD) (d) : (dats m ρ 0 c).before ((1 : Fin 8)) t0_0 d = wiv m 0 c := by
  rw [before_eq m ρ c 1 (fetch0_1 t0_0) d]
  exact Memref.read_access_unit_zero (Elt F) main_arg1 (funext (read_block 1)) (fun a => by fin_cases a <;> decide) (m ((c : Thread nD τ).loc main_arg1))
theorem before_2 (c : Dev nD) (d) : (dats m ρ 0 c).before ((2 : Fin 8)) t0_0 d = wov m 0 c := by
  rw [before_eq m ρ c 2 (fetch0_2 t0_0) d]
  exact Memref.read_access_unit_zero (Elt F) main_arg4 (funext (read_block 2)) (fun a => by fin_cases a <;> decide) (m ((c : Thread nD τ).loc main_arg4))
theorem before_3 (c : Dev nD) (d) : (dats m ρ 0 c).before ((3 : Fin 8)) t0_0 d = wiv m 1 c := by
  rw [before_eq m ρ c 3 (fetch0_3 t0_0) d]
  exact Memref.read_access_unit_zero (Elt F) main_arg2 (funext (read_block 3)) (fun a => by fin_cases a <;> decide) (m ((c : Thread nD τ).loc main_arg2))
theorem before_4 (c : Dev nD) (d) : (dats m ρ 0 c).before ((4 : Fin 8)) t0_0 d = wov m 1 c := by
  rw [before_eq m ρ c 4 (fetch0_4 t0_0) d]
  exact Memref.read_access_unit_zero (Elt F) main_arg5 (funext (read_block 4)) (fun a => by fin_cases a <;> decide) (m ((c : Thread nD τ).loc main_arg5))
theorem before_5 (c : Dev nD) (d) : (dats m ρ 0 c).before ((5 : Fin 8)) t0_0 d = wiv m 2 c := by
  rw [before_eq m ρ c 5 (fetch0_5 t0_0) d]
  exact Memref.read_access_unit_zero (Elt F) main_arg3 (funext (read_block 5)) (fun a => by fin_cases a <;> decide) (m ((c : Thread nD τ).loc main_arg3))
theorem before_6 (c : Dev nD) (d) : (dats m ρ 0 c).before ((6 : Fin 8)) t0_0 d = wov m 2 c := by
  rw [before_eq m ρ c 6 (fetch0_6 t0_0) d]
  exact Memref.read_access_unit_zero (Elt F) main_arg6 (funext (read_block 6)) (fun a => by fin_cases a <;> decide) (m ((c : Thread nD τ).loc main_arg6))

theorem wStg_eq (c : Dev nD) : bigSep Finset.univ (wStg m c)
    = iprop((stg c cc0_stg1_0 (wiv m 0 c) ∗ stg c cc0_stg2_0 (wov m 0 c)) ∗ (stg c cc0_stg3_0 (wiv m 1 c) ∗ stg c cc0_stg4_0 (wov m 1 c))
      ∗ stg c cc0_stg5_0 (wiv m 2 c) ∗ stg c cc0_stg6_0 (wov m 2 c)) := by
  rw [bigSep_fin3]; rfl

/-- A staging buffer held at contents known to be `X`. -/
theorem stg_intro (c : Dev nD) (b : Ref sig .tc) {X Y : b.ty.Contents (Elt F)} (h : Y = X) : (stg c b Y : sProp 𝕄) ⊢ stg c b X := by
  subst h; exact Entails.refl _

/-- The body's post from the run's. -/
theorem post_intro (c : Dev nD) :
    iprop(Owes c 0 ∗ zeros c ∗ scratch c ∗ xHeld m c ∗ bigSep Finset.univ (wStg m c) ∗ Ost m c 4) ⊢ bodyPost m ρ c := by
  rw [wStg_eq]
  unfold bodyPost Φ₁ xHeld Ost Owes Dat.owesAt Pipeline.owesWithin
  iintro ⟨⟨%W, HO⟩, Hz, Hs, Hx, ⟨⟨H1, H2⟩, ⟨H3, H4⟩, H5, H6⟩, ⟨%f, %hf, Ho⟩⟩
  rw [show (dats m ρ 0 c).owed t0_0.succ = 0 from rfl]
  isplitl [Hs Hz]
  · isplitl [Hs] <;> iassumption
  isplitl [HO]
  · iexists W
    isplitr; · ipureintro; exact fun _ _ => Or.inl trivial
    iexact HO
  isplitl [Hx]; · iexact Hx
  isplitl [H1]; · iexact H1
  isplitl [H2]; · iexact H2
  isplitl [H3]; · iexact H3
  isplitl [H4]; · iexact H4
  isplitl [H5]; · iexact H5
  isplitl [H6]; · iexact H6
  iexists f; isplitr; · ipureintro; exact out_eq m c f hf
  iexact Ho

/-- The body from what the launch hands it. -/
theorem sound_body (c : Dev nD) : bodyPre m ρ c ⊢ Wp c body (fun _ => bodyPost m ρ c) := by
  unfold bodyPre Φ₀ start Dat.owesAt Pipeline.owesWithin
  rw [show (dats m ρ 0 c).owed t0_0.castSucc = O₀ c from rfl]
  iintro ⟨⟨⟨⟨%K, Hr, Hl⟩, Hc, Hv⟩, Hs⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, %g7, %h7, H7⟩⟩
  ihave H0 := (stg_intro c cc0_stg0_0 (X := xv m c) (before_0 m ρ c d0)) $$ H0
  ihave H1 := (stg_intro c cc0_stg1_0 (X := wiv m 0 c) (before_1 m ρ c d1)) $$ H1
  ihave H2 := (stg_intro c cc0_stg2_0 (X := wov m 0 c) (before_2 m ρ c d2)) $$ H2
  ihave H3 := (stg_intro c cc0_stg3_0 (X := wiv m 1 c) (before_3 m ρ c d3)) $$ H3
  ihave H4 := (stg_intro c cc0_stg4_0 (X := wov m 1 c) (before_4 m ρ c d4)) $$ H4
  ihave H5 := (stg_intro c cc0_stg5_0 (X := wiv m 2 c) (before_5 m ρ c d5)) $$ H5
  ihave H6 := (stg_intro c cc0_stg6_0 (X := wov m 2 c) (before_6 m ρ c d6)) $$ H6
  iapply (wp_body m K c (fun _ => bodyPost m ρ c)) $$ [Hr Hl Hc Hv Hs HO H0 H1 H2 H3 H4 H5 H6 H7]
  · isplitl [Hr]; · iexact Hr
    isplitl [Hl]; · iexact Hl
    isplitl [Hc]; · iexact Hc
    isplitl [Hv]; · iexact Hv
    isplitl [Hs]; · iexact Hs
    isplitl [HO]; · unfold Owes; iexists W; iexact HO
    isplitl [H0]; · unfold xHeld; iexact H0
    isplitl [H1 H2 H3 H4 H5 H6]
    · rw [wStg_eq]
      isplitl [H1 H2]; · isplitl [H1] <;> iassumption
      isplitl [H3 H4]; · isplitl [H3] <;> iassumption
      isplitl [H5] <;> iassumption
    unfold Ost; iexists g7; isplitr; · ipureintro; exact fun h hh => absurd hh (Nat.not_lt_zero _)
    iexact H7
  iintro H
  iapply (post_intro m ρ c); iexact H

set_option maxRecDepth 16000 in
/-- The launch's obligation on the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ Wp c (bodyAt0 t0_0) (fun _ => bodyPost m ρ c)
  rw [show bodyAt0 (F := F) t0_0 = body from body_eq]
  exact sound_body m ρ c

end Cert.Mlp

end
-- ==== Proof.Deal.lean ====
/-
What the launch sets up for the exchange: the semaphores' invariants, the duties dealt around the devices, the credits.
-/
module

public import proofs.«01_k».proof.Proof.Obligation

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-! ## The cells and the duties -/

/-- The transfers' semaphores are the kernel's own. -/
theorem ownSemFacts : Pipeline.OwnSemFacts cfg0.spec osem where
  isScoped := by decide
  inj := osem_injective
  disj := by decide

def cells : Finset (GSem nD τ sig) := Finset.univ.map ⟨kcell, kcell_injective⟩

/-- A device's own duties: its barrier's three, and one for each side of each transfer. -/
abbrev Own : Type := Fin 3 ⊕ (Bool × Key)
abbrev dutyOf : Dev nD × Own → GSem nD τ sig × ℕ × Fin 3 := fun
  | (c, .inl j) => (barCell c, 0, j)
  | (c, .inr x) => (kcell (c, some x), 0, 0)
theorem dutyOf_injective : Function.Injective dutyOf := by
  rintro ⟨c, j | x⟩ ⟨c', j' | x'⟩ h
  · have h1 := kcell_injective (congrArg (fun p => p.1) h)
    have h2 : j = j' := congrArg (fun p => p.2.2) h
    cases h1; rw [h2]
  · cases kcell_injective (congrArg (fun p => p.1) h)
  · cases kcell_injective (congrArg (fun p => p.1) h)
  · cases kcell_injective (congrArg (fun p => p.1) h); rfl
def duties : Finset (GSem nD τ sig × ℕ × Fin 3) := Finset.univ.map ⟨dutyOf, dutyOf_injective⟩

def u₀ : UU :=
  (initOf (Pipeline.cells cfgs cellOf_inj) (Pipeline.launchToks cfgs cellOf_inj), initOf cells duties)

/-- The rights to device `c`'s own duties. -/
def toks (c : Dev nD) : sProp 𝕄 :=
  iprop((bigSep Finset.univ fun j : Fin 3 => dutyTok ER (barCell c) 0 j) ∗ bigSep Finset.univ fun x : Bool × Key => dutyTok ER (kcell (c, some x)) 0 0)
/-- The rights to the duties device `c` performs. -/
def payToks (c : Dev nD) : sProp 𝕄 :=
  iprop((bigSep Finset.univ fun j : Fin 3 => dutyTok ER (barCell (peer j c)) 0 j) ∗ bigSep Finset.univ fun x : Ch => tri (tokOf1 c x))
def ats (c : Dev nD) : sProp 𝕄 := bigSep Finset.univ fun i : CI => atPos ER (kcell (c, i)) 0 ∅ 0
def begun (c : Dev nD) : sProp 𝕄 := bigSep Finset.univ fun i : CI => reached ER (kcell (c, i)) 0

/-- What device `c` is dealt at first, and what it has once every device's invariants stand. -/
def G (c : Dev nD) : sProp 𝕄 :=
  iprop((bigSep Finset.univ fun i : CI => roundState ER (Rd m) (kcell (c, i)) 0) ∗ (ats c ∗ begun c) ∗ toks c)
def G' (c : Dev nD) : sProp 𝕄 := iprop(∃ K, recs m K ∗ linear c)

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum]; rfl
  iintro HX
  imod (Rounds.fund ER (Rd m) cells duties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats begun; simp only [bigSep_sep']
  isplitl [Hst]; · iexact Hst
  isplitl [Hat Hr]
  · isplitl [Hat] <;> iassumption
  iexact Htok

/-- Every semaphore of the kernel at zero: its own ones and the barrier. -/
theorem ownSems0_eq (c : Dev nD) : (Pipeline.ownSems0 (Ix := Unit) (Name := ℕ) (U := UU) (Lvl := ℕ) (Val := Elt F) (τ := τ) osem c : sProp 𝕄)
    = bigSep Finset.univ fun x : Bool × Key => semVal (kcell (c, some x)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem zeros_eq (c : Dev nD) : (zeros c : sProp 𝕄) = iprop(unscopedSems0 c
    ∗ Pipeline.ownSems0 (Ix := Unit) (Name := ℕ) (U := UU) (Lvl := ℕ) (Val := Elt F) (τ := τ) osem c) := by
  unfold zeros; rw [bigSep_sems, ownSems0_eq, unscopedSems0_eq]

/-- One device's invariants made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i)))) ∗ (ats c ∗ begun c) ∗ toks c) := by
  have alloc : iprop(zeros c ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) := by
    unfold zeros; rw [← bigSep_sep']
    exact (bigSep_mono fun i _ => (Rounds.body_intro ER (Rd m) (kcell (c, i))).trans inv_alloc).trans (bigSep_fupd _ _)
  unfold G
  iintro ⟨Hos, Hus, Hst, Hat, Htok⟩
  imod alloc $$ [Hos Hus Hst] with Hinv
  · rw [zeros_eq]
    isplitl [Hos Hus]
    · isplitl [Hus] <;> iassumption
    iexact Hst
  imodintro
  isplitl [Hinv]; · iexact Hinv
  isplitl [Hat]; · iexact Hat
  iexact Htok

/-- A family over the devices read `j + 1` steps ahead is the family. -/
theorem shift (j : Fin 3) (Φ : Dev nD → sProp 𝕄) : bigSep Finset.univ Φ = bigSep Finset.univ fun c => Φ (peer j c) :=
  bigSep_univ_equiv (around j) Φ

/-- The rights dealt around: a barrier's duty `j` and the arrivals to be made from `j + 1` steps behind go there. -/
theorem toks_around : (bigSep Finset.univ fun c : Dev nD => (toks c : sProp 𝕄)) ⊢ bigSep Finset.univ fun c : Dev nD => payToks c := by
  unfold toks payToks tokOf1
  rw [bigSep_sep', bigSep_sep']
  iintro ⟨HB, HX⟩
  isplitl [HB]
  · simp only [bigSep_fin3, bigSep_sep']
    icases HB with ⟨H0, H1, H2⟩
    isplitl [H0]; · iapply (Entails.of_eq (shift 0 fun c => (dutyTok ER (barCell c) 0 0 : sProp 𝕄))); iexact H0
    isplitl [H1]; · iapply (Entails.of_eq (shift 1 fun c => (dutyTok ER (barCell c) 0 1 : sProp 𝕄))); iexact H1
    iapply (Entails.of_eq (shift 2 fun c => (dutyTok ER (barCell c) 0 2 : sProp 𝕄))); iexact H2
  · have key (j : Fin 3) := Entails.of_eq (shift j fun c => (bigSep Finset.univ fun x : Ch => dutyTok ER (recvCell c x.1 x.2 (rev j)) 0 0 : sProp 𝕄))
    simp only [bigSep_sides]
    unfold tri
    simp only [bigSep_sep']
    icases HX with ⟨⟨S1, S0, S2⟩, V1, V0, V2⟩
    isplitl [S1 V1]
    · isplitl [S1]; · iexact S1
      iapply (key 1); iexact V1
    isplitl [S0 V2]
    · isplitl [S0]; · iexact S0
      iapply (key 0); iexact V2
    isplitl [S2]; · iexact S2
    iapply (key 2); iexact V0

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CI → ℕ) (c : Dev nD) : iprop(recs m K ∗ ats c ∗ payToks c) ⊢ G' m c := by
  unfold G' linear payToks ats
  iintro ⟨HR, Ha, Hb, Hx⟩
  iexists K
  isplitl [HR]; · iexact HR
  isplitl [Ha]; · iexact Ha
  isplitl [Hb] <;> iassumption

theorem regroup :
    (bigSep Finset.univ fun c : Dev nD => iprop((bigSep Finset.univ fun i : CI => iprop(∃ κ : ℕ, cellInv ER (Rd m) κ (kcell (c, i)))) ∗ (ats c ∗ begun c) ∗ toks c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    show (bigSep Finset.univ fun c : Dev nD => (begun c : sProp 𝕄)) = bigSep Finset.univ fun ck : Dev nD × CI => reached ER (kcell ck) 0 from by
      unfold begun; rw [← bigSep_univ_prod (fun ck : Dev nD × CI => (reached ER (kcell ck) 0 : sProp 𝕄))]]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := recs m K) (Φ := fun c => iprop(ats c ∗ payToks c)) fun c _ => G'_intro m K c)
  isplitr
  · unfold recs; isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem ite_amount (p : Prop) [Decidable p] (n : ℕ) : (if p then n else 0) = n * if p then 1 else 0 := by split <;> simp

/-- Of the three devices a device sends to, one at most is `c` reached by the way `s` back. -/
theorem from_one : ∀ (c d : Dev nD) (s : Fin 3),
    (if c = peer 1 d ∧ s = rev 1 then 1 else 0) + ((if c = peer 0 d ∧ s = rev 0 then 1 else 0) + (if c = peer 2 d ∧ s = rev 2 then 1 else 0))
      = if d = peer s c then 1 else 0 := by decide

theorem recv_eq_iff {a b : Dev nD} {x y : Ch} {s t : Fin 3} : Iff (recvCell a x.1 x.2 s = recvCell b y.1 y.2 t) (y = x ∧ (a = b ∧ s = t)) := by
  constructor
  · intro h
    have h1 := kcell_injective h
    have h2 : a = b := congrArg (fun p => p.1) h1
    have h3 := Option.some.inj (congrArg (fun p => p.2) h1)
    have h4 : x.1 = y.1 := congrArg (fun p => p.2.1) h3
    have h5 : x.2 = y.2 := congrArg (fun p => p.2.2.1) h3
    exact ⟨(Prod.ext h4 h5).symm, h2, congrArg (fun p => p.2.2.2) h3⟩
  · rintro ⟨rfl, rfl, rfl⟩; rfl

/-- What one chunk of device `d` owes an arrival at device `c`. -/
theorem owed_chunk (d c : Dev nD) (x y : Ch) (s : Fin 3) :
    oweCh d y (recvCell c x.1 x.2 s) () = N * (if d = peer s c then 1 else 0) * if y = x then 1 else 0 := by
  unfold oweCh
  simp only [Pi.add_apply, Finsupp.add_apply, tallyAt_apply, recv_eq_iff, and_true, ite_amount _ N]
  by_cases h : y = x
  · simp only [h, true_and, ← Nat.mul_add, from_one, if_true, Nat.mul_one]
  · simp only [h, false_and, if_false, Nat.mul_zero, Nat.add_zero]

theorem owed_chunks (d c : Dev nD) (x : Ch) (s : Fin 3) : ∀ xs : List Ch,
    oweL d xs (recvCell c x.1 x.2 s) () = N * (if d = peer s c then 1 else 0) * xs.count x
  | [] => rfl
  | y :: xs => by
    unfold oweL
    rw [Pi.add_apply, Finsupp.add_apply, owed_chunk, owed_chunks d c x s xs, ← Nat.mul_add, List.count_cons, Nat.add_comm]
    congr 2
    by_cases h : y = x <;> simp [h]

theorem bar_ne_recv {a b : Dev nD} {x : Ch} {s : Fin 3} (h : barCell a = recvCell b x.1 x.2 s) : False := by
  cases kcell_injective h

theorem unit_recv (d c : Dev nD) (j : Fin 3) (x : Ch) (s : Fin 3) : oweB d j (recvCell c x.1 x.2 s) = 0 :=
  tallyAt_ne_cell (fun h => bar_ne_recv h.symm) () 1

theorem owed_recv (d c : Dev nD) (x : Ch) (s : Fin 3) : O₀ d (recvCell c x.1 x.2 s) () = N * (if d = peer s c then 1 else 0) := by
  unfold O₀
  rw [Pi.add_apply, Finsupp.add_apply, Pi.add_apply, Finsupp.add_apply, Pi.add_apply, Finsupp.add_apply,
    unit_recv, unit_recv, unit_recv, owed_chunks, show chunks.count x = 1 from by revert x; decide]
  simp

theorem bar_eq_iff {a b : Dev nD} : Iff (barCell a = barCell b) (a = b) :=
  ⟨fun h => congrArg (fun p => p.1) (kcell_injective h), fun h => h ▸ rfl⟩

theorem owed_bar (d c : Dev nD) : O₀ d (barCell c) ()
    = (if c = peer 0 d then 1 else 0) + ((if c = peer 1 d then 1 else 0) + (if c = peer 2 d then 1 else 0)) := by
  have h0 : oweL d chunks (barCell c) () = 0 := by
    by_contra h
    obtain ⟨x, _, e, j, h⟩ := oweL_pos (Nat.pos_of_ne_zero h)
    exact bar_ne_recv h
  unfold O₀
  rw [Pi.add_apply, Finsupp.add_apply, Pi.add_apply, Finsupp.add_apply, Pi.add_apply, Finsupp.add_apply, h0]
  simp only [tallyAt_apply, bar_eq_iff, and_true, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (x : Ch) (s : Fin 3) :
    tallyOn (recvCell c x.1 x.2 s) (launchCredit (Pipeline.owing O₀) 0 (recvCell c x.1 x.2 s)) = (tallyAt (recvCell c x.1 x.2 s) () N : CellTallies nD τ sig Unit) := by
  unfold tallyAt; refine congrArg _ (Finsupp.ext fun u => ?_); cases u
  rw [Pipeline.launchCredit_owing, Finsupp.single_eq_same, Finset.sum_congr rfl fun d _ => owed_recv d c x s, ← Finset.mul_sum,
    Finset.sum_ite_eq' Finset.univ (peer s c) fun _ => 1, if_pos (Finset.mem_univ _), Nat.mul_one]

theorem creds_intro (c : Dev nD) : (Pipeline.launchCred O₀ c : sProp 𝕄) ⊢ creds c := by
  have h1 : (Pipeline.launchCred O₀ c : sProp 𝕄) ⊢ bigSep Finset.univ fun i : CI => cred (tallyOn (kcell (c, i)) (launchCredit (Pipeline.owing O₀) 0 (kcell (c, i)))) := by
    unfold Pipeline.launchCred
    exact (bigSep_subset (Finset.subset_univ (Finset.univ.map ⟨csem, csem_injective⟩))).trans (Entails.of_eq (bigSep_map _))
  refine h1.trans ?_
  rw [bigSep_sems, bigSep_sides]
  simp only [launch_bar, launch_recv]
  unfold creds
  iintro ⟨HB, -, HV⟩
  isplitl [HB] <;> iassumption

end Cert.Mlp

end
-- ==== Proof.Launch.lean ====
/-
The whole run: from any memory with every semaphore at zero, every device ends with `outAt` in its result array.
-/
module

public import proofs.«01_k».proof.Proof.Deal
public import Idealize.ShloMosaic.Lib.Pipeline.CollectiveSegs
public import Idealize.ShloMosaic.Lib.Pipeline.ValueKit

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch; rw [zeros_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Arrays : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On the four devices, for any float values and from any memory with every semaphore at zero: every fair execution ends,
    each argument and result array holds what `finalA` says, and every semaphore is back at zero. -/
theorem run_arrays : θ_run defs (onTc (τ := τ) (main (F := F))) (s₀ m ρ) (fun r => Arrays m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at `outAt`: its one write-back covers it. -/
theorem final_out (c : Dev nD) : finalA m ρ c (7 : Fin 8) = outAt m c := by
  refine (dats m ρ 0 c).arrAt_eq_of_after_last (7 : Fin 8) t0_0 (by decide +kernel) _ fun j => ?_
  rfl
/-- An input's array ends as it began. -/
theorem final_in (c : Dev nD) (w : Fin cfg0.W) (hw : (cfg0.win w).isOut = false) :
    finalA m ρ c w = (s₀ m ρ).mem ((cfg0.win w).arr.view.loc (c : Thread nD τ)) := (dats m ρ 0 c).arrAt_in w hw _

/-- The arguments' arrays as at launch. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- On the four devices, for any float values and from any memory with every semaphore at zero: every fair execution ends, with
    the result array of each device at `outAt`, its arguments unchanged and every semaphore back at zero. -/
theorem run_main : θ_run defs (onTc (τ := τ) (main (F := F))) (s₀ m ρ) (fun r =>
    (∀ c : Dev nD, r.2.mem ((c : Thread nD τ).loc main_v1) = outAt m c ∧ Kept m c r.2) ∧ r.2.sem = fun _ => 0) :=
  (θ_run defs _ _).mono (fun r h => ⟨fun c => ⟨(h.1 c (7 : Fin 8)).trans (final_out m ρ c),
    (h.1 c (0 : Fin 8)).trans (final_in m ρ c 0 rfl), (h.1 c (1 : Fin 8)).trans (final_in m ρ c 1 rfl),
    (h.1 c (3 : Fin 8)).trans (final_in m ρ c 3 rfl), (h.1 c (5 : Fin 8)).trans (final_in m ρ c 5 rfl),
    (h.1 c (2 : Fin 8)).trans (final_in m ρ c 2 rfl), (h.1 c (4 : Fin 8)).trans (final_in m ρ c 4 rfl),
    (h.1 c (6 : Fin 8)).trans (final_in m ρ c 6 rfl)⟩, h.2⟩) (run_arrays m ρ)

end Cert.Mlp

end
-- ==== Proof.Layer.lean ====
/-
One layer of the network over the extended reals, and how it splits: by rows, and by columns of the hidden layer over the devices.
-/
module

public import Idealize.ShloMosaic.Lib.MatmulPlain
public import Idealize.ShloMosaic.Lib.StackMember
public import Idealize.ShloMosaic.Lib.Layout

@[expose] public section

noncomputable section

namespace Cert.Mlp

open Idealize.ShloMosaic Idealize.ShloMosaic.TcCoe Idealize.ShloMosaic.ValueIdx Idealize.ShloMosaic.StackMember
open scoped BigOperators

/-- A matrix over the extended reals. -/
abbrev Mat (a b : ℕ) : Type := (⟨2, ![a, b]⟩ : Shape).Idx → EReal

/-- One layer: the product with the first weights, its negative entries made zero, the product with the second. -/
def layer {r k : ℕ} (X : Mat r 256) (wi : Mat 256 k) (wo : Mat k 256) : Mat r 256 := fun i =>
  ∑ f : Fin k, max (∑ a : Fin 256, X (ix2 (i 0) a) * wi (ix2 a f)) 0 * wo (ix2 f (i 1))

/-- Row chunk `h`: rows `64 h` up to `64 h + 64`. -/
def rows (h : Fin 4) (X : Mat 256 256) : Mat 64 256 := fun i =>
  X (ix2 ⟨64 * h.val + (i 0).val, by have : (i 0).val < 64 := (i 0).isLt; have := h.isLt; omega⟩ (i 1))

/-- The input `x` after one, two and three layers with the weights given. -/
def after (x : Mat 256 256) (wi : Fin 3 → Mat 256 2048) (wo : Fin 3 → Mat 2048 256) : ℕ → Mat 256 256
  | 0 => x
  | 1 => layer x (wi 0) (wo 0)
  | 2 => layer (layer x (wi 0) (wo 0)) (wi 1) (wo 1)
  | _ => layer (layer (layer x (wi 0) (wo 0)) (wi 1) (wo 1)) (wi 2) (wo 2)

/-- A layer acts on each row alone. -/
theorem layer_rows {k : ℕ} (h : Fin 4) (X : Mat 256 256) (wi : Mat 256 k) (wo : Mat k 256) :
    layer (rows h X) wi wo = rows h (layer X wi wo) := rfl

/-- A quarter of the first weights' columns, and of the second weights' rows. -/
abbrev wiBlock (d : Fin 4) (W : Mat 256 2048) : Mat 256 512 := Layout.block ⟨2, ![256, 512]⟩ ⟨2, ![256, 2048]⟩ 1 4 d W
abbrev woBlock (d : Fin 4) (W : Mat 2048 256) : Mat 512 256 := Layout.block ⟨2, ![512, 256]⟩ ⟨2, ![2048, 256]⟩ 0 4 d W

theorem hidden_lt (d : Fin 4) (f : Fin 512) : 512 * d.val + f.val < 2048 := by have := d.isLt; have := f.isLt; omega
theorem wiBlock_apply (d : Fin 4) (W : Mat 256 2048) (a : Fin 256) (f : Fin 512) :
    wiBlock d W (ix2 a f) = W (ix2 a ⟨512 * d.val + f.val, hidden_lt d f⟩) := by
  refine congrArg W (funext fun b => Fin.ext ?_)
  match b with
  | ⟨0, _⟩ => rfl
  | ⟨1, _⟩ => exact congrArg (· + f.val) (Nat.mul_comm d.val 512)
theorem woBlock_apply (d : Fin 4) (W : Mat 2048 256) (f : Fin 512) (k : Fin 256) :
    woBlock d W (ix2 f k) = W (ix2 ⟨512 * d.val + f.val, hidden_lt d f⟩ k) := by
  refine congrArg W (funext fun b => Fin.ext ?_)
  match b with
  | ⟨0, _⟩ => exact congrArg (· + f.val) (Nat.mul_comm d.val 512)
  | ⟨1, _⟩ => rfl

/-- A sum over the hidden columns, quarter by quarter. -/
theorem sum_quarters (g : Fin 2048 → EReal) : ∑ d : Fin 4, ∑ f : Fin 512, g ⟨512 * d.val + f.val, hidden_lt d f⟩ = ∑ f, g f := by
  rw [← Fintype.sum_prod_type' fun (d : Fin 4) (f : Fin 512) => g ⟨512 * d.val + f.val, hidden_lt d f⟩]
  exact Fintype.sum_equiv (finProdFinEquiv (m := 4) (n := 512)) _ g fun x => congrArg g (Fin.ext (Nat.add_comm _ _))

/-- The devices' partial layers sum to the layer. -/
theorem layer_devices {r : ℕ} (X : Mat r 256) (wi : Mat 256 2048) (wo : Mat 2048 256) (i) :
    ∑ d : Fin 4, layer X (wiBlock d wi) (woBlock d wo) i = layer X wi wo i := by
  unfold layer
  rw [← sum_quarters]
  refine Finset.sum_congr rfl fun d _ => Finset.sum_congr rfl fun f _ => ?_
  exact congrArg₂ (fun u v => max u 0 * v) (Finset.sum_congr rfl fun a _ => congrArg (X (ix2 (i 0) a) * ·) (wiBlock_apply d wi a f))
    (woBlock_apply d wo f (i 1))

/-- The word of all zeros is zero, in either format. -/
theorem zero_bf16 : Ideal.ofBits .bf16 0x0000#16 = 0 := by simp [Ideal.ofBits, Ideal.ieee]

theorem zero_f32 : Ideal.ofBits .f32 0x00000000#32 = 0 := by simp [Ideal.ofBits, Ideal.ieee]

/-- The two products on the host, rounded between, are a layer: over the extended reals rounding changes nothing. -/
theorem host_layer {r k : ℕ} (X : FVec Ideal ⟨2, ![r, 256]⟩ .bf16) (wi : FVec Ideal ⟨2, ![256, k]⟩ .bf16) (wo : FVec Ideal ⟨2, ![k, 256]⟩ .bf16)
    (z : FVec Ideal ⟨2, ![r, k]⟩ .bf16) (hz : ∀ i, z i = (0 : EReal)) :
    Host.dotGeneral (DotDims.plain r k 256) none (φ₁ := .bf16) (φ₂ := .bf16)
      (maximumf (truncf .bf16 (Host.dotGeneral (DotDims.plain r 256 k) none X wi) (by decide)) z) wo = layer X wi wo := by
  funext i
  obtain ⟨a, b, rfl⟩ : ∃ (a : Fin r) (b : Fin 256), i = ix2 a b := ⟨i 0, i 1, eq_ix2 i⟩
  rw [dotGeneral_plain_apply]
  refine Finset.sum_congr rfl fun f _ => ?_
  refine congrArg (· * wo (ix2 f b)) ?_
  show max (Host.dotGeneral (DotDims.plain r 256 k) none X wi (ix2 a f)) (z (ix2 a f)) = _
  rw [dotGeneral_plain_apply, hz]
  rfl

/-- The same with a kernel's products, whose accumulators start at zero. -/
theorem kernel_layer {r k : ℕ} (X : FVec Ideal ⟨2, ![r, 256]⟩ .bf16) (wi : FVec Ideal ⟨2, ![256, k]⟩ .bf16) (wo : FVec Ideal ⟨2, ![k, 256]⟩ .bf16)
    (z z' : FVec Ideal ⟨2, ![r, k]⟩ .f32) (z'' : FVec Ideal ⟨2, ![r, 256]⟩ .f32)
    (hz : ∀ i, z i = (0 : EReal)) (hz' : ∀ i, z' i = (0 : EReal)) (hz'' : ∀ i, z'' i = (0 : EReal)) :
    matmul (DotDims.plain r k 256) none (truncf .bf16 (maximumf (matmul (DotDims.plain r 256 k) none X wi z) z') (by decide) : FVec Ideal ⟨2, ![r, k]⟩ .bf16) wo z''
      = layer X wi wo := by
  funext i
  obtain ⟨a, b, rfl⟩ : ∃ (a : Fin r) (b : Fin 256), i = ix2 a b := ⟨i 0, i 1, eq_ix2 i⟩
  refine (Ideal.matmul_plain_apply none _ wo z'' a b).trans ?_
  rw [hz'', zero_add]
  refine Finset.sum_congr rfl fun f _ => ?_
  refine congrArg (· * wo (ix2 f b)) ?_
  show max (FloatOps.matmul (DotDims.plain r 256 k) none X wi z (ix2 a f)) (z' (ix2 a f)) = _
  rw [Ideal.matmul_plain_apply, hz, hz', zero_add]
  rfl

end Cert.Mlp

end
-- ==== Proof.Value.lean ====
/-
Over the extended reals, every device's result is three layers of the input.
-/
module

public import proofs.«01_k».proof.Proof.Launch
public import proofs.«01_k».proof.Proof.Layer
public import Idealize.ShloMosaic.Lib.Pipeline.Value

@[expose] public section

noncomputable section

namespace Cert.Mlp

open Cert.KernelIdeal Cert.KernelIdeal.Gen
open Idealize.ShloMosaic Idealize.ShloMosaic.TcCoe Idealize.ShloMosaic.ValueIdx
open scoped BigOperators

/-! ## The kernel's chunks -/

/-- What a device computes on a chunk is a layer with its own quarter of the weights. -/
theorem mm_layer (x : FVec Ideal S64x256 .bf16) (wi : Vec Ideal S256x512 .bf16) (wo : Vec Ideal S512x256 .bf16) :
    mm x (winVal wi) (woutVal wo) = layer x wi wo := by
  unfold mm winVal woutVal
  rw [shapeCast_shapeCast, shapeCast_shapeCast, shapeCast_self, shapeCast_self]
  exact kernel_layer x wi wo _ _ _ (fun _ => zero_f32) (fun _ => zero_f32) (fun _ => zero_f32)

/-- A chunk as the kernel cuts it out. -/
theorem chunk_rows (h : Fin 4) (x : Vec Ideal S256x256 .bf16) : chunk h x = rows h x := by
  unfold chunk
  rw [shapeCast_self]
  funext i
  refine extractStridedSlice_apply _ x (slicesX h) i _ fun a => ?_
  match a with
  | ⟨0, _⟩ => rfl
  | ⟨1, _⟩ => exact (Nat.zero_add _).symm

/-- A device's own partial result plus the others' is the sum over all devices. -/
theorem totOf_sum (P : Dev nD → FVec Ideal S64x256 .f32) (c : Dev nD) (i) : totOf P c i = ∑ d : Fin 4, P d i := by
  rw [Fin.sum_univ_four]
  show ((P c i + P (peer 1 c) i) + P (peer 2 c) i) + P (peer 0 c) i = (_ : EReal)
  generalize hQ : (fun d => (P d i : EReal)) = Q
  have e : ∀ d, (P d i : EReal) = Q d := fun d => congrFun hQ d
  simp only [e]
  match c with
  | 0 => show Q 0 + Q 2 + Q 3 + Q 1 = _; ac_rfl
  | 1 => show Q 1 + Q 3 + Q 0 + Q 2 = _; ac_rfl
  | 2 => show Q 2 + Q 0 + Q 1 + Q 3 = _; ac_rfl
  | 3 => show Q 3 + Q 1 + Q 2 + Q 0 = _; ac_rfl

variable (m : (ℓ : Loc nD τ sig) → Buf (Elt Ideal) ℓ) (x : Mat 256 256) (wi : Fin 3 → Mat 256 2048) (wo : Fin 3 → Mat 2048 256)

/-- Each device holds the whole input and its own quarter of every weight. -/
def Dealt : Prop :=
  (∀ c, xv m c = x) ∧ (∀ l c, wiv m l c = wiBlock c (wi l)) ∧ ∀ l c, wov m l c = woBlock c (wo l)

variable {m x wi wo}

/-- If every device starts a layer from the same rows, the total is the layer of these rows. -/
theorem tot_layer (H : Dealt m x wi wo) (l : Fin 3) (h : Fin 4) (X : Dev nD → FVec Ideal S64x256 .bf16) (Y : Mat 256 256)
    (hX : ∀ c, X c = rows h Y) (c : Dev nD) : totOf (partOf m l X) c = rows h (layer Y (wi l) (wo l)) := by
  funext i
  rw [totOf_sum, ← layer_rows, ← layer_devices]
  refine Finset.sum_congr rfl fun d _ => congrFun ?_ i
  unfold partOf
  rw [mm_layer, hX, H.2.1, H.2.2]

/-- The rows each layer starts from are the same on every device. -/
theorem inp0_eq (H : Dealt m x wi wo) (h : Fin 4) (c : Dev nD) : inp0 m h c = rows h x := by
  unfold inp0
  rw [chunk_rows, H.1]
theorem inp1_eq (H : Dealt m x wi wo) (h : Fin 4) (c : Dev nD) : inp1 m h c = rows h (after x wi wo 1) :=
  tot_layer H 0 h _ x (inp0_eq H h) c
theorem inp2_eq (H : Dealt m x wi wo) (h : Fin 4) (c : Dev nD) : inp2 m h c = rows h (after x wi wo 2) :=
  tot_layer H 1 h _ _ (inp1_eq H h) c

/-- Every device's result is the three layers of the input. -/
theorem outAt_eq (H : Dealt m x wi wo) (c : Dev nD) : outAt m c = after x wi wo 3 := by
  funext i
  unfold outAt
  refine (congrFun (tot_layer H 2 _ _ _ (inp2_eq H _) c) _).trans (congrArg (after x wi wo 3) (funext fun a => Fin.ext ?_))
  match a with
  | ⟨0, _⟩ => exact Nat.div_add_mod (i 0).val 64
  | ⟨1, _⟩ => rfl

end Cert.Mlp

end
-- ==== Proof.Reference.lean ====
/-
Over the extended reals, the reference's result is three layers of the input.
-/
module

public import proofs.«01_k».proof.Proof.Layer
public import proofs.«01_k».proof.Proof.Gen.ReferenceIdeal.Run

@[expose] public section

noncomputable section

namespace Cert.Mlp

open Cert.ReferenceIdeal Cert.ReferenceIdeal.Gen
open Idealize.ShloMosaic Idealize.ShloMosaic.TcCoe Idealize.SL.Sem

/-- A layer as the reference writes it. -/
def refLayer (X : FVec Ideal S256x256 .bf16) (wi : FVec Ideal S256x2048 .bf16) (wo : FVec Ideal S2048x256 .bf16) : FVec Ideal S256x256 .bf16 :=
  truncf .bf16 (Host.dotGeneral dot_S256x2048_S2048x256_S256x256_1_0_0_1_n_n none
    (maximumf (truncf .bf16 (Host.dotGeneral dot_S256x256_S256x2048_S256x2048_1_0_0_1_n_n none X wi) bitsLt_bf16_f32)
      (broadcastInDim S256x2048 ![] bcast_S_S256x2048 (constant S_ .bf16 0x0000#16))) wo) bitsLt_bf16_f32
theorem refLayer_eq (X : FVec Ideal S256x256 .bf16) (wi : FVec Ideal S256x2048 .bf16) (wo : FVec Ideal S2048x256 .bf16) :
    refLayer X wi wo = layer X wi wo := host_layer X wi wo _ fun _ => zero_bf16

variable (m : (ℓ : Loc nD τ sig) → Buf (Elt Ideal) ℓ)

/-- The reference's input and its weights, layer by layer. -/
def xR (c : Dev nD) : Mat 256 256 := m ((c : Thread nD τ).loc main_arg0)
def wiR (c : Dev nD) (l : Fin 3) : Mat 256 2048 :=
  match l with | 0 => m ((c : Thread nD τ).loc main_arg1) | 1 => m ((c : Thread nD τ).loc main_arg2) | 2 => m ((c : Thread nD τ).loc main_arg3)
def woR (c : Dev nD) (l : Fin 3) : Mat 2048 256 :=
  match l with | 0 => m ((c : Thread nD τ).loc main_arg4) | 1 => m ((c : Thread nD τ).loc main_arg5) | 2 => m ((c : Thread nD τ).loc main_arg6)

/-- The reference's result is three layers of its input. -/
theorem ref_eq (c : Dev nD) :
    refLayer (refLayer (refLayer (xR m c) (wiR m c 0) (woR m c 0)) (wiR m c 1) (woR m c 1)) (wiR m c 2) (woR m c 2) = after (xR m c) (wiR m c) (woR m c) 3 := by
  rw [refLayer_eq, refLayer_eq, refLayer_eq]
  rfl

/-- The reference ends with three layers of its input in the result, and its arguments unchanged. -/
theorem run_ref (ρ : Dev nD → PrngReg) : θ_run defs (onTc (τ := τ) (main (F := Ideal))) ⟨m, fun _ => 0, ρ⟩ fun r => ∀ c : Dev nD,
    r.2.mem ((c : Thread nD τ).loc main_v18) = after (xR m c) (wiR m c) (woR m c) 3
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(h c).1.trans (ref_eq m c), (h c).2⟩) (Cert.ReferenceIdeal.Value.run (F := Ideal) m ρ)

end Cert.Mlp

end
-- ==== Proof.lean ====
/-
The proof of the certificate's claims about the kernel and the reference: each program ends with its arguments unchanged and its
semaphores at zero, and over the extended reals the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- Both printings of the kernel have the same bodies, for any float values. -/
theorem table_eq {F : FTy → Type} [FloatOps F] : Cert.Kernel.defs₀ (F := F) = Cert.KernelIdeal.defs₀ := by
  funext p l a
  match p with
  | .tc => match l, a with
    | 0, (t, s) => rfl
    | ⟨_ + 1, h⟩, _ => exact absurd h (Nat.not_lt.2 (Nat.le_add_left _ _))
  | .scScalar _ => rfl
  | .scVector _ _ => rfl
theorem defs_eq {F : FTy → Type} [FloatOps F] : Cert.Kernel.defs (F := F) = Cert.KernelIdeal.defs :=
  congrArg (Pipeline.defs (Cert.KernelIdeal.pcfgs (F := F))) table_eq

/-- The kernel, with floats as words: it ends, its arguments unchanged, its semaphores at zero. -/
theorem frame_kernel : Cert.quiescent_Kernel := fun m ρ _ => by
  rw [defs_eq]
  exact (θ_run Cert.KernelIdeal.defs _ _).mono (fun _ h => ⟨fun c => (h.1 c).2, h.2⟩) (Cert.Mlp.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.Mlp.run_main (F := Ideal) m ρ)

/-- The reference ends in the same way. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- From memories that agree through the dealing out of the weights, every device's result is the reference's. -/
theorem algebraic : Cert.algebraic_KernelIdeal_ReferenceIdeal := fun m ρ m' ρ' _ h => by
  have H : Cert.Mlp.Dealt m (Cert.Mlp.xR m' 0) (Cert.Mlp.wiR m' 0) (Cert.Mlp.woR m' 0) := by
    refine ⟨fun c => (h c).1, fun l c => ?_, fun l c => ?_⟩
    · match l with
      | 0 => exact (h c).2.1
      | 1 => exact (h c).2.2.1
      | 2 => exact (h c).2.2.2.1
    · match l with
      | 0 => exact (h c).2.2.2.2.1
      | 1 => exact (h c).2.2.2.2.2.1
      | 2 => exact (h c).2.2.2.2.2.2
  exact ⟨Cert.Mlp.after (Cert.Mlp.xR m' 0) (Cert.Mlp.wiR m' 0) (Cert.Mlp.woR m' 0) 3,
    (θ_run Cert.KernelIdeal.defs _ _).mono (fun _ hr c => ⟨(hr.1 c).1.trans (Cert.Mlp.outAt_eq H c), (hr.1 c).2⟩) (Cert.Mlp.run_main (F := Ideal) m ρ),
    (θ_run Cert.ReferenceIdeal.defs _ _).mono (fun _ hr => hr 0) (Cert.Mlp.run_ref m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
